-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x1024x1024 : Shape := ⟨3, ![1, 1024, 1024]⟩
abbrev S1024x1024 : Shape := ⟨2, ![1024, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x1024x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1024x1024 .f32 := (extf .f32 · bitsLt_bf16_f32) main_arg2
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v10 main_v15
  main_v16
-- ==== Pre_scores_finite_ReferenceIdeal.lean ====
abbrev S1x1024x1024 : Shape := ⟨3, ![1, 1024, 1024]⟩
abbrev S1024x8192 : Shape := ⟨2, ![1024, 8192]⟩
abbrev S8192x1024 : Shape := ⟨2, ![8192, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S1x1024x1024 .bf16) (main_arg1 : FVec F S1024x8192 .bf16) (main_arg2 : FVec F S1024x8192 .bf16) (main_arg3 : FVec F S1024x8192 .bf16) (main_arg4 : FVec F S8192x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x8192 .f32 := (extf .f32 · bitsLt_bf16_f32) main_arg1
  let main_v6 : FVec F S1024x8192 .f32 := Host.absf main_v5
  let main_cst_0 : FVec F S_ .f32 := constant S_ .f32 0x7F800000#32
  let main_v7 : FVec F S1024x8192 .f32 := broadcastInDim S1024x8192 ![] bcast_S_S1024x8192 main_cst_0
  let main_v8 : IVec S1024x8192 1 := cmpf .olt main_v6 main_v7
  let main_c_1 : IVec S_ 1 := constantI S_ 1 1#1
  let main_v9 : IVec S_ 1 := (fun x v => Host.reduce IntOp.andi x v reducesTo_S1024x8192_S_d0_1 h_S_) main_v8 main_c_1
  let main_v10 : IVec S_ 1 := andi main_v4 main_v9
  let main_v11 : FVec F S1024x8192 .f32 := (extf .f32 · bitsLt_bf16_f32) main_arg2
  let main_v12 : FVec F S1024x8192 .f32 := Host.absf main_v11
  let main_cst_2 : FVec F S_ .f32 := constant S_ .f32 0x7F800000#32
  let main_v13 : FVec F S1024x8192 .f32 := broadcastInDim S1024x8192 ![] bcast_S_S1024x8192 main_cst_2
  let main_v14 : IVec S1024x8192 1 := cmpf .olt main_v12 main_v13
  let main_c_3 : IVec S_ 1 := constantI S_ 1 1#1
  let main_v15 : IVec S_ 1 := (fun x v => Host.reduce IntOp.andi x v reducesTo_S1024x8192_S_d0_1 h_S_) main_v14 main_c_3
  let main_v16 : IVec S_ 1 := andi main_v10 main_v15
  main_v16
-- ==== Kernel.lean ====
abbrev S1x1024x1024 : Shape := ⟨3, ![1, 1024, 1024]⟩
abbrev S1024x1024 : Shape := ⟨2, ![1024, 1024]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S1024x64x2 : Shape := ⟨3, ![1024, 64, 2]⟩
abbrev S1024x128 : Shape := ⟨2, ![1024, 128]⟩
abbrev S1x1024x1x128 : Shape := ⟨4, ![1, 1024, 1, 128]⟩
abbrev S1x1024x8x128 : Shape := ⟨4, ![1, 1024, 8, 128]⟩
abbrev S1024x512 : Shape := ⟨2, ![1024, 512]⟩
abbrev S896x512 : Shape := ⟨2, ![896, 512]⟩
abbrev S12 : Shape := ⟨1, ![12]⟩
abbrev S1 : Shape := ⟨1, ![1]⟩
abbrev S512x512 : Shape := ⟨2, ![512, 512]⟩
abbrev S256x512 : Shape := ⟨2, ![256, 512]⟩
abbrev S128x512 : Shape := ⟨2, ![128, 512]⟩
abbrev S1x1024x512 : Shape := ⟨3, ![1, 1024, 512]⟩

abbrev nBuf : Space → Nat
  | .hbm => 57
  | .vmem => 13
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S1024, .i32⟩
  | .hbm, ⟨24, _⟩ => ⟨S1024x1, .i32⟩
  | .hbm, ⟨25, _⟩ => ⟨S1x64, .f32⟩
  | .hbm, ⟨26, _⟩ => ⟨S1024x1, .f32⟩
  | .hbm, ⟨27, _⟩ => ⟨S1024x64, .f32⟩
  | .hbm, ⟨28, _⟩ => ⟨S1024x64, .f32⟩
  | .hbm, ⟨29, _⟩ => ⟨S1024x64, .f32⟩
  | .hbm, ⟨30, _⟩ => ⟨S1024x64, .f32⟩
  | .hbm, ⟨31, _⟩ => ⟨S1024x64x2, .f32⟩
  | .hbm, ⟨32, _⟩ => ⟨S1024x128, .f32⟩
  | .hbm, ⟨33, _⟩ => ⟨S1024x64, .f32⟩
  | .hbm, ⟨34, _⟩ => ⟨S1024x64x2, .f32⟩
  | .hbm, ⟨35, _⟩ => ⟨S1024x128, .f32⟩
  | .hbm, ⟨36, _⟩ => ⟨S1x1024x1x128, .f32⟩
  | .hbm, ⟨37, _⟩ => ⟨S1x1024x8x128, .f32⟩
  | .hbm, ⟨38, _⟩ => ⟨S1024x1024, .f32⟩
  | .hbm, ⟨39, _⟩ => ⟨S1x1024x1x128, .f32⟩
  | .hbm, ⟨40, _⟩ => ⟨S1x1024x8x128, .f32⟩
  | .hbm, ⟨41, _⟩ => ⟨S1024x1024, .f32⟩
  | .hbm, ⟨42, _⟩ => ⟨S1024x1024, .i32⟩
  | .hbm, ⟨43, _⟩ => ⟨S1024x1024, .i32⟩
  | .hbm, ⟨44, _⟩ => ⟨S_, .i32⟩
  | .hbm, ⟨45, _⟩ => ⟨S1024x1024, .i32⟩
  | .hbm, ⟨46, _⟩ => ⟨S1024x1024, .i32⟩
  | .hbm, ⟨47, _⟩ => ⟨S_, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S1024x1024, .i32⟩
  | .hbm, ⟨52, _⟩ => ⟨S1024x1024, .i32⟩
  | .hbm, ⟨53, _⟩ => ⟨S1024x1024, .i32⟩
  | .hbm, ⟨54, _⟩ => ⟨S1024x1024, .f32⟩
  | .hbm, ⟨55, _⟩ => ⟨S1024x1024, .bf16⟩
  | .hbm, ⟨56, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1x1024x1024, .f32⟩
  | .local _ .vmem, ⟨9, _⟩ => ⟨S1024x512, .bf16⟩
  | .local _ .vmem, ⟨10, _⟩ => ⟨S1024x512, .bf16⟩
  | .local _ .vmem, ⟨11, _⟩ => ⟨S896x512, .bf16⟩
  | .local _ .vmem, ⟨12, _⟩ => ⟨S896x512, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.xori v2 c4_i32
  let c1_i32_1 : BitVec 32 := 1#32
  let v5 : BitVec 32 := Scalar.muli v4 c1_i32_1
  let v6 : BitVec 32 := Scalar.addi c0_i32 v5
  v6.toNat
def k0_dev2 (d0 : Dev nD) : Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_3 : BitVec 32 := 1#32
  let v8 : BitVec 32 := Scalar.muli v7 c1_i32_3
  let v9 : BitVec 32 := Scalar.addi c0_i32_4 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_7 : BitVec 32 := 1#32
  let v11 : BitVec 32 := Scalar.muli v10 c1_i32_7
  let v12 : BitVec 32 := Scalar.addi c0_i32_8 v11
  v12.toNat
def k0_off1 (d0 : Dev nD) (c4_i32_63 : BitVec 32) : Fin 2 → Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v162 : BitVec 32 := Scalar.andi v2 c4_i32_63
  let c0_i32_64 : BitVec 32 := 0#32
  let v163 : BitVec 1 := Scalar.cmpi .ne v162 c0_i32_64
  let c0_i32_65 : BitVec 32 := 0#32
  let c512_i32 : BitVec 32 := 512#32
  let v164 : BitVec 32 := Scalar.select v163 c0_i32_65 c512_i32
  let v165 : BitVec 32 := Scalar.addi c0_i32_66 v164
  let c0_i32_76 : BitVec 32 := 0#32
  ![v165.toNat, 0]
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_62 : BitVec 32 := 4#32
  let v161 : BitVec 32 := Scalar.xori v2 c4_i32_62
  let c1_i32_72 : BitVec 32 := 1#32
  let v168 : BitVec 32 := Scalar.muli v161 c1_i32_72
  let v169 : BitVec 32 := Scalar.addi c0_i32_73 v168
  v169.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_77 : BitVec 32 := 1#32
  let v176 : BitVec 32 := Scalar.xori v2 c1_i32_77
  let c1_i32_88 : BitVec 32 := 1#32
  let v183 : BitVec 32 := Scalar.muli v176 c1_i32_88
  let v184 : BitVec 32 := Scalar.addi c0_i32_89 v183
  v184.toNat
def k0_off2 (d0 : Dev nD) (c4_i32_63 : BitVec 32) : Fin 2 → Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v162 : BitVec 32 := Scalar.andi v2 c4_i32_63
  let c0_i32_64 : BitVec 32 := 0#32
  let v163 : BitVec 1 := Scalar.cmpi .ne v162 c0_i32_64
  let c512_i32_67 : BitVec 32 := 512#32
  let c0_i32_68 : BitVec 32 := 0#32
  let v166 : BitVec 32 := Scalar.select v163 c512_i32_67 c0_i32_68
  let v167 : BitVec 32 := Scalar.addi c0_i32_69 v166
  let v197 : Index := Scalar.indexCast v167
  let c0_100 : Index := 0#32
  ![v197.toNat, 0]
def k0_off3 (d0 : Dev nD) (c4_i32_63 : BitVec 32) : Fin 2 → Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v162 : BitVec 32 := Scalar.andi v2 c4_i32_63
  let c0_i32_64 : BitVec 32 := 0#32
  let v163 : BitVec 1 := Scalar.cmpi .ne v162 c0_i32_64
  let c512_i32_67 : BitVec 32 := 512#32
  let c0_i32_68 : BitVec 32 := 0#32
  let v166 : BitVec 32 := Scalar.select v163 c512_i32_67 c0_i32_68
  let v167 : BitVec 32 := Scalar.addi c0_i32_69 v166
  let c2_i32_116 : BitVec 32 := 2#32
  let v226 : BitVec 32 := Scalar.andi v2 c2_i32_116
  let c0_i32_117 : BitVec 32 := 0#32
  let v227 : BitVec 1 := Scalar.cmpi .ne v226 c0_i32_117
  let c0_i32_118 : BitVec 32 := 0#32
  let c256_i32 : BitVec 32 := 256#32
  let v228 : BitVec 32 := Scalar.select v227 c0_i32_118 c256_i32
  let v229 : BitVec 32 := Scalar.addi v167 v228
  let c0_i32_127 : BitVec 32 := 0#32
  ![v229.toNat, 0]
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_115 : BitVec 32 := 2#32
  let v225 : BitVec 32 := Scalar.xori v2 c2_i32_115
  let c1_i32_123 : BitVec 32 := 1#32
  let v232 : BitVec 32 := Scalar.muli v225 c1_i32_123
  let v233 : BitVec 32 := Scalar.addi c0_i32_124 v232
  v233.toNat
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_128 : BitVec 32 := 2#32
  let v240 : BitVec 32 := Scalar.xori v2 c2_i32_128
  let c1_i32_137 : BitVec 32 := 1#32
  let v247 : BitVec 32 := Scalar.muli v240 c1_i32_137
  let v248 : BitVec 32 := Scalar.addi c0_i32_138 v247
  v248.toNat
def k0_off4 (d0 : Dev nD) (c4_i32_63 : BitVec 32) : Fin 2 → Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v162 : BitVec 32 := Scalar.andi v2 c4_i32_63
  let c0_i32_64 : BitVec 32 := 0#32
  let v163 : BitVec 1 := Scalar.cmpi .ne v162 c0_i32_64
  let c512_i32_67 : BitVec 32 := 512#32
  let c0_i32_68 : BitVec 32 := 0#32
  let v166 : BitVec 32 := Scalar.select v163 c512_i32_67 c0_i32_68
  let v167 : BitVec 32 := Scalar.addi c0_i32_69 v166
  let c2_i32_116 : BitVec 32 := 2#32
  let v226 : BitVec 32 := Scalar.andi v2 c2_i32_116
  let c0_i32_117 : BitVec 32 := 0#32
  let v227 : BitVec 1 := Scalar.cmpi .ne v226 c0_i32_117
  let c256_i32_119 : BitVec 32 := 256#32
  let c0_i32_120 : BitVec 32 := 0#32
  let v230 : BitVec 32 := Scalar.select v227 c256_i32_119 c0_i32_120
  let v231 : BitVec 32 := Scalar.addi v167 v230
  let v261 : Index := Scalar.indexCast v231
  let c0_149 : Index := 0#32
  ![v261.toNat, 0]
def k0_off5 (d0 : Dev nD) (c4_i32_63 : BitVec 32) (c1_i32_164 : BitVec 32) (c0_i32_166 : BitVec 32) (c128_i32 : BitVec 32) : Fin 2 → Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v162 : BitVec 32 := Scalar.andi v2 c4_i32_63
  let c0_i32_64 : BitVec 32 := 0#32
  let v163 : BitVec 1 := Scalar.cmpi .ne v162 c0_i32_64
  let c512_i32_67 : BitVec 32 := 512#32
  let c0_i32_68 : BitVec 32 := 0#32
  let v166 : BitVec 32 := Scalar.select v163 c512_i32_67 c0_i32_68
  let v167 : BitVec 32 := Scalar.addi c0_i32_69 v166
  let c2_i32_116 : BitVec 32 := 2#32
  let v226 : BitVec 32 := Scalar.andi v2 c2_i32_116
  let c0_i32_117 : BitVec 32 := 0#32
  let v227 : BitVec 1 := Scalar.cmpi .ne v226 c0_i32_117
  let c256_i32_119 : BitVec 32 := 256#32
  let c0_i32_120 : BitVec 32 := 0#32
  let v230 : BitVec 32 := Scalar.select v227 c256_i32_119 c0_i32_120
  let v231 : BitVec 32 := Scalar.addi v167 v230
  let v290 : BitVec 32 := Scalar.andi v2 c1_i32_164
  let c0_i32_165 : BitVec 32 := 0#32
  let v291 : BitVec 1 := Scalar.cmpi .ne v290 c0_i32_165
  let v292 : BitVec 32 := Scalar.select v291 c0_i32_166 c128_i32
  let v293 : BitVec 32 := Scalar.addi v231 v292
  let c0_i32_174 : BitVec 32 := 0#32
  ![v293.toNat, 0]
def k0_off5_at (r : Fin 4) : BitVec 32 × BitVec 32 × BitVec 32 × BitVec 32 :=
  if r.val < 2 then
    if r.val < 1 then
      (4#32, 1#32, 0#32, 128#32)
    else
      (1#32, 4#32, 0#32, 128#32)
  else
    if r.val < 3 then
      (4#32, 1#32, 128#32, 0#32)
    else
      (1#32, 4#32, 128#32, 0#32)
def k0_dev8 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_163 : BitVec 32 := 1#32
  let v289 : BitVec 32 := Scalar.xori v2 c1_i32_163
  let c1_i32_171 : BitVec 32 := 1#32
  let v296 : BitVec 32 := Scalar.muli v289 c1_i32_171
  let v297 : BitVec 32 := Scalar.addi c0_i32_172 v296
  v297.toNat
def k0_dev9 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_175 : BitVec 32 := 4#32
  let v304 : BitVec 32 := Scalar.xori v2 c4_i32_175
  let c1_i32_183 : BitVec 32 := 1#32
  let v311 : BitVec 32 := Scalar.muli v304 c1_i32_183
  let v312 : BitVec 32 := Scalar.addi c0_i32_184 v311
  v312.toNat
def k0_off6 (d0 : Dev nD) (c4_i32_63 : BitVec 32) (c1_i32_164 : BitVec 32) : Fin 2 → Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v162 : BitVec 32 := Scalar.andi v2 c4_i32_63
  let c0_i32_64 : BitVec 32 := 0#32
  let v163 : BitVec 1 := Scalar.cmpi .ne v162 c0_i32_64
  let c512_i32_67 : BitVec 32 := 512#32
  let c0_i32_68 : BitVec 32 := 0#32
  let v166 : BitVec 32 := Scalar.select v163 c512_i32_67 c0_i32_68
  let v167 : BitVec 32 := Scalar.addi c0_i32_69 v166
  let c2_i32_116 : BitVec 32 := 2#32
  let v226 : BitVec 32 := Scalar.andi v2 c2_i32_116
  let c0_i32_117 : BitVec 32 := 0#32
  let v227 : BitVec 1 := Scalar.cmpi .ne v226 c0_i32_117
  let c256_i32_119 : BitVec 32 := 256#32
  let c0_i32_120 : BitVec 32 := 0#32
  let v230 : BitVec 32 := Scalar.select v227 c256_i32_119 c0_i32_120
  let v231 : BitVec 32 := Scalar.addi v167 v230
  let v290 : BitVec 32 := Scalar.andi v2 c1_i32_164
  let c0_i32_165 : BitVec 32 := 0#32
  let v291 : BitVec 1 := Scalar.cmpi .ne v290 c0_i32_165
  let c128_i32_167 : BitVec 32 := 128#32
  let c0_i32_168 : BitVec 32 := 0#32
  let v294 : BitVec 32 := Scalar.select v291 c128_i32_167 c0_i32_168
  let v295 : BitVec 32 := Scalar.addi v231 v294
  let v325 : Index := Scalar.indexCast v295
  let c0_195 : Index := 0#32
  ![v325.toNat, 0]
def k0_off6_at (r : Fin 2) : BitVec 32 × BitVec 32 :=
  if r.val < 1 then
    (4#32, 1#32)
  else
    (1#32, 4#32)
def k0_dev10 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_209 : BitVec 32 := 1#32
  let v353 : BitVec 32 := Scalar.xori v2 c1_i32_209
  let c1_i32_211 : BitVec 32 := 1#32
  let v354 : BitVec 32 := Scalar.muli v353 c1_i32_211
  let v355 : BitVec 32 := Scalar.addi c0_i32_212 v354
  v355.toNat
def k0_dev11 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_215 : BitVec 32 := 4#32
  let v362 : BitVec 32 := Scalar.xori v2 c4_i32_215
  let c1_i32_217 : BitVec 32 := 1#32
  let v363 : BitVec 32 := Scalar.muli v362 c1_i32_217
  let v364 : BitVec 32 := Scalar.addi c0_i32_218 v363
  v364.toNat
def k0_off7 (d0 : Dev nD) (c4_i32_63 : BitVec 32) (c1_i32_164 : BitVec 32) (c1_i32_227 : BitVec 32) : Fin 2 → Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v162 : BitVec 32 := Scalar.andi v2 c4_i32_63
  let c0_i32_64 : BitVec 32 := 0#32
  let v163 : BitVec 1 := Scalar.cmpi .ne v162 c0_i32_64
  let c512_i32_67 : BitVec 32 := 512#32
  let c0_i32_68 : BitVec 32 := 0#32
  let v166 : BitVec 32 := Scalar.select v163 c512_i32_67 c0_i32_68
  let v167 : BitVec 32 := Scalar.addi c0_i32_69 v166
  let c2_i32_116 : BitVec 32 := 2#32
  let v226 : BitVec 32 := Scalar.andi v2 c2_i32_116
  let c0_i32_117 : BitVec 32 := 0#32
  let v227 : BitVec 1 := Scalar.cmpi .ne v226 c0_i32_117
  let c256_i32_119 : BitVec 32 := 256#32
  let c0_i32_120 : BitVec 32 := 0#32
  let v230 : BitVec 32 := Scalar.select v227 c256_i32_119 c0_i32_120
  let v231 : BitVec 32 := Scalar.addi v167 v230
  let v290 : BitVec 32 := Scalar.andi v2 c1_i32_164
  let c0_i32_165 : BitVec 32 := 0#32
  let v291 : BitVec 1 := Scalar.cmpi .ne v290 c0_i32_165
  let c128_i32_167 : BitVec 32 := 128#32
  let c0_i32_168 : BitVec 32 := 0#32
  let v294 : BitVec 32 := Scalar.select v291 c128_i32_167 c0_i32_168
  let v295 : BitVec 32 := Scalar.addi v231 v294
  let v377 : BitVec 32 := Scalar.andi v2 c1_i32_227
  let c0_i32_228 : BitVec 32 := 0#32
  let v378 : BitVec 1 := Scalar.cmpi .ne v377 c0_i32_228
  let c128_i32_229 : BitVec 32 := 128#32
  let c0_i32_230 : BitVec 32 := 0#32
  let v379 : BitVec 32 := Scalar.select v378 c128_i32_229 c0_i32_230
  let v380 : BitVec 32 := Scalar.subi v295 v379
  let c0_i32_246 : BitVec 32 := 0#32
  ![v380.toNat, 0]
def k0_off7_at (r : Fin 2) : BitVec 32 × BitVec 32 × BitVec 32 :=
  if r.val < 1 then
    (4#32, 1#32, 1#32)
  else
    (1#32, 4#32, 4#32)
def k0_dev12 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_241 : BitVec 32 := 2#32
  let v391 : BitVec 32 := Scalar.xori v2 c2_i32_241
  let c1_i32_244 : BitVec 32 := 1#32
  let v392 : BitVec 32 := Scalar.muli v391 c1_i32_244
  let v393 : BitVec 32 := Scalar.addi c0_i32_245 v392
  v393.toNat
def k0_dev13 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_248 : BitVec 32 := 2#32
  let v400 : BitVec 32 := Scalar.xori v2 c2_i32_248
  let c1_i32_250 : BitVec 32 := 1#32
  let v401 : BitVec 32 := Scalar.muli v400 c1_i32_250
  let v402 : BitVec 32 := Scalar.addi c0_i32_251 v401
  v402.toNat
def k0_off8 (d0 : Dev nD) (c4_i32_63 : BitVec 32) (c1_i32_164 : BitVec 32) (c1_i32_227 : BitVec 32) : Fin 2 → Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v162 : BitVec 32 := Scalar.andi v2 c4_i32_63
  let c0_i32_64 : BitVec 32 := 0#32
  let v163 : BitVec 1 := Scalar.cmpi .ne v162 c0_i32_64
  let c512_i32_67 : BitVec 32 := 512#32
  let c0_i32_68 : BitVec 32 := 0#32
  let v166 : BitVec 32 := Scalar.select v163 c512_i32_67 c0_i32_68
  let v167 : BitVec 32 := Scalar.addi c0_i32_69 v166
  let c2_i32_116 : BitVec 32 := 2#32
  let v226 : BitVec 32 := Scalar.andi v2 c2_i32_116
  let c0_i32_117 : BitVec 32 := 0#32
  let v227 : BitVec 1 := Scalar.cmpi .ne v226 c0_i32_117
  let c256_i32_119 : BitVec 32 := 256#32
  let c0_i32_120 : BitVec 32 := 0#32
  let v230 : BitVec 32 := Scalar.select v227 c256_i32_119 c0_i32_120
  let v231 : BitVec 32 := Scalar.addi v167 v230
  let v290 : BitVec 32 := Scalar.andi v2 c1_i32_164
  let c0_i32_165 : BitVec 32 := 0#32
  let v291 : BitVec 1 := Scalar.cmpi .ne v290 c0_i32_165
  let c128_i32_167 : BitVec 32 := 128#32
  let c0_i32_168 : BitVec 32 := 0#32
  let v294 : BitVec 32 := Scalar.select v291 c128_i32_167 c0_i32_168
  let v295 : BitVec 32 := Scalar.addi v231 v294
  let v377 : BitVec 32 := Scalar.andi v2 c1_i32_227
  let c0_i32_228 : BitVec 32 := 0#32
  let v378 : BitVec 1 := Scalar.cmpi .ne v377 c0_i32_228
  let c128_i32_229 : BitVec 32 := 128#32
  let c0_i32_230 : BitVec 32 := 0#32
  let v379 : BitVec 32 := Scalar.select v378 c128_i32_229 c0_i32_230
  let v380 : BitVec 32 := Scalar.subi v295 v379
  let c2_i32_260 : BitVec 32 := 2#32
  let v415 : BitVec 32 := Scalar.andi v2 c2_i32_260
  let c0_i32_261 : BitVec 32 := 0#32
  let v416 : BitVec 1 := Scalar.cmpi .ne v415 c0_i32_261
  let c256_i32_262 : BitVec 32 := 256#32
  let c0_i32_263 : BitVec 32 := 0#32
  let v417 : BitVec 32 := Scalar.select v416 c256_i32_262 c0_i32_263
  let v418 : BitVec 32 := Scalar.subi v380 v417
  let c0_i32_278 : BitVec 32 := 0#32
  ![v418.toNat, 0]
def k0_off8_at (r : Fin 2) : BitVec 32 × BitVec 32 × BitVec 32 :=
  if r.val < 1 then
    (4#32, 1#32, 1#32)
  else
    (1#32, 4#32, 4#32)
def k0_dev14 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_274 : BitVec 32 := 4#32
  let v429 : BitVec 32 := Scalar.xori v2 c4_i32_274
  let c1_i32_276 : BitVec 32 := 1#32
  let v430 : BitVec 32 := Scalar.muli v429 c1_i32_276
  let v431 : BitVec 32 := Scalar.addi c0_i32_277 v430
  v431.toNat
def k0_dev15 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_280 : BitVec 32 := 1#32
  let v438 : BitVec 32 := Scalar.xori v2 c1_i32_280
  let c1_i32_282 : BitVec 32 := 1#32
  let v439 : BitVec 32 := Scalar.muli v438 c1_i32_282
  let v440 : BitVec 32 := Scalar.addi c0_i32_283 v439
  v440.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S8192x1024 : Shape := ⟨2, ![8192, 1024]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S1024x64x2 : Shape := ⟨3, ![1024, 64, 2]⟩
abbrev S1024x128 : Shape := ⟨2, ![1024, 128]⟩
abbrev S1x1024x8192 : Shape := ⟨3, ![1, 1024, 8192]⟩
abbrev S1x1024x64x128 : Shape := ⟨4, ![1, 1024, 64, 128]⟩
abbrev S1x1024x64x64x2 : Shape := ⟨5, ![1, 1024, 64, 64, 2]⟩
abbrev S1x1024x64x64x1 : Shape := ⟨5, ![1, 1024, 64, 64, 1]⟩
abbrev S1x1024x64x64 : Shape := ⟨4, ![1, 1024, 64, 64]⟩
abbrev S1x1024x1x128 : Shape := ⟨4, ![1, 1024, 1, 128]⟩
abbrev S1x64x1024x1024 : Shape := ⟨4, ![1, 64, 1024, 1024]⟩
abbrev S1x64x1024 : Shape := ⟨3, ![1, 64, 1024]⟩
abbrev S1x64x1024x1 : Shape := ⟨4, ![1, 64, 1024, 1]⟩
abbrev S1x64x128x1024 : Shape := ⟨4, ![1, 64, 128, 1024]⟩

abbrev nBuf : Space → Nat
  | .hbm => 99
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x8192, .bf16⟩
  | .hbm, ⟨2, _⟩ => ⟨S1024x8192, .bf16⟩
  | .hbm, ⟨3, _⟩ => ⟨S1024x8192, .bf16⟩
  | .hbm, ⟨4, _⟩ => ⟨S8192x1024, .bf16⟩
  | .hbm, ⟨5, _⟩ => ⟨S1x1024x1024, .f32⟩
  | .hbm, ⟨6, _⟩ => ⟨S1024x8192, .f32⟩
  | .hbm, ⟨7, _⟩ => ⟨S1024x8192, .f32⟩
  | .hbm, ⟨8, _⟩ => ⟨S1024x8192, .f32⟩
  | .hbm, ⟨9, _⟩ => ⟨S8192x1024, .f32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S1024, .i32⟩
  | .hbm, ⟨28, _⟩ => ⟨S1024x1, .i32⟩
  | .hbm, ⟨29, _⟩ => ⟨S1x64, .f32⟩
  | .hbm, ⟨30, _⟩ => ⟨S1024x1, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S1024x64, .f32⟩
  | .hbm, ⟨35, _⟩ => ⟨S1024x64x2, .f32⟩
  | .hbm, ⟨36, _⟩ => ⟨S1024x128, .f32⟩
  | .hbm, ⟨37, _⟩ => ⟨S1024x64, .f32⟩
  | .hbm, ⟨38, _⟩ => ⟨S1024x64x2, .f32⟩
  | .hbm, ⟨39, _⟩ => ⟨S1024x128, .f32⟩
  | .hbm, ⟨40, _⟩ => ⟨S1x1024x8192, .f32⟩
  | .hbm, ⟨41, _⟩ => ⟨S1x1024x64x128, .f32⟩
  | .hbm, ⟨42, _⟩ => ⟨S1x1024x64x64x2, .f32⟩
  | .hbm, ⟨43, _⟩ => ⟨S1x1024x64x64x1, .f32⟩
  | .hbm, ⟨44, _⟩ => ⟨S1x1024x64x64, .f32⟩
  | .hbm, ⟨45, _⟩ => ⟨S1x1024x64x64, .f32⟩
  | .hbm, ⟨46, _⟩ => ⟨S1x1024x64x64x1, .f32⟩
  | .hbm, ⟨47, _⟩ => ⟨S1x1024x64x64, .f32⟩
  | .hbm, ⟨48, _⟩ => ⟨S1x1024x64x64x1, .f32⟩
  | .hbm, ⟨49, _⟩ => ⟨S1x1024x64x64x1, .f32⟩
  | .hbm, ⟨50, _⟩ => ⟨S1x1024x64x64x2, .f32⟩
  | .hbm, ⟨51, _⟩ => ⟨S1x1024x64x128, .f32⟩
  | .hbm, ⟨52, _⟩ => ⟨S1x1024x1x128, .f32⟩
  | .hbm, ⟨53, _⟩ => ⟨S1x1024x64x128, .f32⟩
  | .hbm, ⟨54, _⟩ => ⟨S1x1024x64x128, .f32⟩
  | .hbm, ⟨55, _⟩ => ⟨S1x1024x1x128, .f32⟩
  | .hbm, ⟨56, _⟩ => ⟨S1x1024x64x128, .f32⟩
  | .hbm, ⟨57, _⟩ => ⟨S1x1024x64x128, .f32⟩
  | .hbm, ⟨58, _⟩ => ⟨S1x1024x64x128, .f32⟩
  | .hbm, ⟨59, _⟩ => ⟨S1x1024x8192, .f32⟩
  | .hbm, ⟨60, _⟩ => ⟨S1x1024x64x128, .f32⟩
  | .hbm, ⟨61, _⟩ => ⟨S1x1024x64x64x2, .f32⟩
  | .hbm, ⟨62, _⟩ => ⟨S1x1024x64x64x1, .f32⟩
  | .hbm, ⟨63, _⟩ => ⟨S1x1024x64x64, .f32⟩
  | .hbm, ⟨64, _⟩ => ⟨S1x1024x64x64, .f32⟩
  | .hbm, ⟨65, _⟩ => ⟨S1x1024x64x64x1, .f32⟩
  | .hbm, ⟨66, _⟩ => ⟨S1x1024x64x64, .f32⟩
  | .hbm, ⟨67, _⟩ => ⟨S1x1024x64x64x1, .f32⟩
  | .hbm, ⟨68, _⟩ => ⟨S1x1024x64x64x1, .f32⟩
  | .hbm, ⟨69, _⟩ => ⟨S1x1024x64x64x2, .f32⟩
  | .hbm, ⟨70, _⟩ => ⟨S1x1024x64x128, .f32⟩
  | .hbm, ⟨71, _⟩ => ⟨S1x1024x1x128, .f32⟩
  | .hbm, ⟨72, _⟩ => ⟨S1x1024x64x128, .f32⟩
  | .hbm, ⟨73, _⟩ => ⟨S1x1024x64x128, .f32⟩
  | .hbm, ⟨74, _⟩ => ⟨S1x1024x1x128, .f32⟩
  | .hbm, ⟨75, _⟩ => ⟨S1x1024x64x128, .f32⟩
  | .hbm, ⟨76, _⟩ => ⟨S1x1024x64x128, .f32⟩
  | .hbm, ⟨77, _⟩ => ⟨S1x1024x64x128, .f32⟩
  | .hbm, ⟨78, _⟩ => ⟨S1x1024x8192, .f32⟩
  | .hbm, ⟨79, _⟩ => ⟨S1x1024x64x128, .f32⟩
  | .hbm, ⟨80, _⟩ => ⟨S1x64x1024x1024, .f32⟩
  | .hbm, ⟨81, _⟩ => ⟨S_, .f32⟩
  | .hbm, ⟨82, _⟩ => ⟨S1x64x1024x1024, .f32⟩
  | .hbm, ⟨83, _⟩ => ⟨S1x64x1024x1024, .f32⟩
  | .hbm, ⟨84, _⟩ => ⟨S_, .f32⟩
  | .hbm, ⟨85, _⟩ => ⟨S1x64x1024, .f32⟩
  | .hbm, ⟨86, _⟩ => ⟨S1x64x1024x1, .f32⟩
  | .hbm, ⟨87, _⟩ => ⟨S1x64x1024x1024, .f32⟩
  | .hbm, ⟨88, _⟩ => ⟨S1x64x1024x1024, .f32⟩
  | .hbm, ⟨89, _⟩ => ⟨S1x64x1024x1024, .f32⟩
  | .hbm, ⟨90, _⟩ => ⟨S_, .f32⟩
  | .hbm, ⟨91, _⟩ => ⟨S1x64x1024, .f32⟩
  | .hbm, ⟨92, _⟩ => ⟨S1x64x1024x1, .f32⟩
  | .hbm, ⟨93, _⟩ => ⟨S1x64x1024x1024, .f32⟩
  | .hbm, ⟨94, _⟩ => ⟨S1x64x1024x1024, .f32⟩
  | .hbm, ⟨95, _⟩ => ⟨S1x64x128x1024, .f32⟩
  | .hbm, ⟨96, _⟩ => ⟨S1x1024x64x128, .f32⟩
  | .hbm, ⟨97, _⟩ => ⟨S1x1024x8192, .f32⟩
  | .hbm, ⟨98, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.Regions.lean ====
/-
Row regions of a 512-column working buffer.

A device's working and receive buffers are cut along their rows only: every transfer, load and store of the
exchange names some consecutive rows of one buffer, all 512 columns. `RW c M lo n q G` is the ownership (at share `q`)
of the rows `lo, …, lo + n - 1` of the memref `M` on device `c`, holding `G row column` there; `RX` is the same with
unknown contents. The lemmas are the steps the kernel takes on them: splitting and joining along rows and along the share,
loading, storing, and sending the rows of one buffer into the rows of another.
-/
module

public import Idealize.ShloMosaic.Lib.Rounds
public import Idealize.ShloMosaic.Lib.Tactic
public import Idealize.ShloMosaic.Lib.Pointwise.Index

@[expose] public section

noncomputable section

namespace Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable {H : ℕ}

/-- The buffer elements under the rows `lo, …, lo + n - 1`. -/
def rset (M : Memref sig .tc .vmem ⟨2, ![H, 512]⟩ .bf16) (lo n : ℕ) : Finset M.view.ty.Idx :=
  M.view.setOn (Finset.univ.filter fun i => lo ≤ (i 0).val ∧ (i 0).val < lo + n)

/-- The rows hold `G row column`. -/
def Holds (M : Memref sig .tc .vmem ⟨2, ![H, 512]⟩ .bf16) (lo n : ℕ) (G : ℕ → Fin 512 → Val .bf16) (f : M.view.ty.Contents Val) : Prop :=
  ∀ i : Shape.Idx ⟨2, ![H, 512]⟩, lo ≤ (i 0).val → (i 0).val < lo + n → M.view.read Val f i = G (i 0).val (i 1)

/-- Rows `lo, …, lo + n - 1` of `M` on device `c`, at share `q`, contents unknown. -/
def RX (c : Dev nD) (M : Memref sig .tc .vmem ⟨2, ![H, 512]⟩ .bf16) (lo n : ℕ) (q : PosShare TreeShare) : sProp 𝕄 :=
  iprop(∃ f : Buf Val (M.view.loc (c : Thread nD τ)), (M.view.loc (c : Thread nD τ)) ↦[rset M lo n]{q} f)

/-- The same holding `G`. -/
def RW (c : Dev nD) (M : Memref sig .tc .vmem ⟨2, ![H, 512]⟩ .bf16) (lo n : ℕ) (q : PosShare TreeShare)
    (G : ℕ → Fin 512 → Val .bf16) : sProp 𝕄 :=
  iprop(∃ f : Buf Val (M.view.loc (c : Thread nD τ)), ⌜Holds (Val := Val) M lo n G f⌝ ∗ (M.view.loc (c : Thread nD τ)) ↦[rset M lo n]{q} f)

instance RX_storable (c : Dev nD) (M : Memref sig .tc .vmem ⟨2, ![H, 512]⟩ .bf16) (lo n : ℕ) (q) :
    BI.Storable (upEmb : UEmb _ 𝕄) (RX (τ := τ) c M lo n q) := by unfold RX; infer_instance
instance RW_storable (c : Dev nD) (M : Memref sig .tc .vmem ⟨2, ![H, 512]⟩ .bf16) (lo n : ℕ) (q) (G) :
    BI.Storable (upEmb : UEmb _ 𝕄) (RW (τ := τ) c M lo n q G) := by unfold RW; infer_instance

/-- The vector read from `n` rows at `lo` of `G`. -/
def vecOf (n : ℕ) (G : ℕ → Fin 512 → Val .bf16) (lo : ℕ) : (⟨2, ![n, 512]⟩ : Shape).Idx → Val .bf16 :=
  fun i => G (lo + (i 0).val) (i 1)

section Sets
variable (M : Memref sig .tc .vmem ⟨2, ![H, 512]⟩ .bf16)

theorem mem_rset {lo n : ℕ} (i : Shape.Idx ⟨2, ![H, 512]⟩) : M.view.emb i ∈ rset M lo n ↔ lo ≤ (i 0).val ∧ (i 0).val < lo + n := by
  unfold rset; rw [View.mem_setOn, Finset.mem_filter]; simp only [Finset.mem_univ, true_and]

theorem of_mem_rset {lo n : ℕ} {j : M.view.ty.Idx} (h : j ∈ rset M lo n) :
    ∃ i : Shape.Idx ⟨2, ![H, 512]⟩, M.view.emb i = j ∧ lo ≤ (i 0).val ∧ (i 0).val < lo + n := by
  unfold rset View.setOn at h
  obtain ⟨i, hi, rfl⟩ := Finset.mem_map.mp h
  exact ⟨i, rfl, (Finset.mem_filter.mp hi).2⟩

theorem rset_add (lo a b : ℕ) : rset M lo (a + b) = rset M lo a ∪ rset M (lo + a) b := by
  ext j
  constructor
  · intro h
    obtain ⟨i, rfl, h1, h2⟩ := of_mem_rset M h
    rw [Finset.mem_union, mem_rset, mem_rset]; omega
  · intro h
    rcases Finset.mem_union.mp h with h | h <;> obtain ⟨i, rfl, h1, h2⟩ := of_mem_rset M h <;> rw [mem_rset] <;> omega

theorem rset_disjoint (lo a b : ℕ) : Disjoint (rset M lo a) (rset M (lo + a) b) := by
  rw [Finset.disjoint_left]
  intro j h h'
  obtain ⟨i, rfl, h1, h2⟩ := of_mem_rset M h
  rw [mem_rset] at h'; omega

theorem rset_whole : rset M 0 H = M.view.set := by
  unfold rset View.set View.setOn
  congr 1
  refine Finset.filter_true_of_mem fun i _ => ⟨Nat.zero_le _, ?_⟩
  rw [Nat.zero_add]; exact (i 0).isLt

variable {n lo : ℕ} {off : Fin 2 → ℕ} (hoff : off = ![lo, 0])
  (inb : ∀ a, off a + (![n, 512] : Fin 2 → ℕ) a ≤ (⟨2, ![H, 512]⟩ : Shape).size a)

include hoff in
theorem rset_slice : rset M lo n = (M.view.slice (Rect.unit (s := ⟨2, ![H, 512]⟩) off ![n, 512] inb)).set := by
  subst hoff
  rw [View.set_slice]; unfold rset View.setOn
  congr 1
  ext i
  rw [Finset.mem_filter, Rect.mem_set_unit]
  constructor
  · intro h a
    match a with
    | ⟨0, _⟩ => exact h.2
    | ⟨1, _⟩ => exact ⟨Nat.zero_le _, by have := (i 1).isLt; simpa using this⟩
  · intro h; exact ⟨Finset.mem_univ _, h 0⟩

include hoff in
theorem read_slice {G : ℕ → Fin 512 → Val .bf16} {f : M.view.ty.Contents Val} (h : Holds M lo n G f) :
    (M.view.slice (Rect.unit (s := ⟨2, ![H, 512]⟩) off ![n, 512] inb)).read Val f = vecOf n G lo := by
  subst hoff
  funext x
  have h0 := (x 0).isLt
  show M.view.read Val f ((Rect.unit (s := ⟨2, ![H, 512]⟩) ![lo, 0] ![n, 512] inb).emb x) = _
  have e0 : (((Rect.unit (s := ⟨2, ![H, 512]⟩) ![lo, 0] ![n, 512] inb).emb x) 0).val = lo + (x 0).val :=
    (Rect.emb_apply _ x 0).trans (by show lo + 1 * (x 0).val = _; omega)
  have e1 : ((Rect.unit (s := ⟨2, ![H, 512]⟩) ![lo, 0] ![n, 512] inb).emb x) 1 = x 1 := by
    apply Fin.ext
    exact (Rect.emb_apply _ x 1).trans (by show 0 + 1 * (x 1).val = _; omega)
  rw [h _ (by omega) (by rw [e0]; exact Nat.add_lt_add_left h0 lo), e0, e1]
  rfl

include hoff in
theorem holds_write {G : ℕ → Fin 512 → Val .bf16} (f : M.view.ty.Contents Val) (w : (⟨2, ![n, 512]⟩ : Shape).Idx → Val .bf16)
    (hw : w = vecOf n G lo) :
    Holds M lo n G ((M.view.slice (Rect.unit (s := ⟨2, ![H, 512]⟩) off ![n, 512] inb)).write Val f w Finset.univ) := by
  subst hoff; subst hw
  intro i h1 h2
  have hlt : (i 0).val - lo < n := by omega
  have hx : (Rect.unit (s := ⟨2, ![H, 512]⟩) ![lo, 0] ![n, 512] inb).emb (ix2 (⟨(i 0).val - lo, hlt⟩ : Fin n) (i 1)) = i := by
    funext a
    match a with
    | ⟨0, _⟩ =>
      apply Fin.ext
      exact (Rect.emb_apply _ _ 0).trans (by show lo + 1 * ((i 0).val - lo) = (i 0).val; omega)
    | ⟨1, _⟩ =>
      apply Fin.ext
      exact (Rect.emb_apply _ _ 1).trans (by show 0 + 1 * (i 1).val = (i 1).val; omega)
  have := View.read_write_of_mem (Val := Val) (v := M.view.slice (Rect.unit (s := ⟨2, ![H, 512]⟩) ![lo, 0] ![n, 512] inb)) f (vecOf n G lo)
    (Finset.mem_univ (ix2 (⟨(i 0).val - lo, hlt⟩ : Fin n) (i 1)))
  have e : (M.view.slice (Rect.unit (s := ⟨2, ![H, 512]⟩) ![lo, 0] ![n, 512] inb)).read Val
      ((M.view.slice (Rect.unit (s := ⟨2, ![H, 512]⟩) ![lo, 0] ![n, 512] inb)).write Val f (vecOf n G lo) Finset.univ)
      (ix2 (⟨(i 0).val - lo, hlt⟩ : Fin n) (i 1))
      = M.view.read Val ((M.view.slice (Rect.unit (s := ⟨2, ![H, 512]⟩) ![lo, 0] ![n, 512] inb)).write Val f (vecOf n G lo) Finset.univ) i := by
    show M.view.read Val _ ((Rect.unit (s := ⟨2, ![H, 512]⟩) ![lo, 0] ![n, 512] inb).emb _) = _
    rw [hx]
  refine e.symm.trans (this.trans ?_)
  show G (lo + ((i 0).val - lo)) (i 1) = _
  rw [Nat.add_sub_cancel' h1]

end Sets

section Laws
variable (c : Dev nD) (M : Memref sig .tc .vmem ⟨2, ![H, 512]⟩ .bf16)

theorem RW_forget (lo n : ℕ) (q) (G : ℕ → Fin 512 → Val .bf16) : (RW c M lo n q G : sProp 𝕄) ⊢ RX (τ := τ) c M lo n q := by
  unfold RW RX; iintro ⟨%f, _, H⟩; iexists f; iexact H

theorem RW_congr {lo n : ℕ} {q} {G G' : ℕ → Fin 512 → Val .bf16} (h : ∀ r, lo ≤ r → r < lo + n → ∀ k, G r k = G' r k) :
    (RW c M lo n q G : sProp 𝕄) ⊢ RW (τ := τ) c M lo n q G' := by
  unfold RW; iintro ⟨%f, %hf, H⟩; iexists f; isplitr
  · ipureintro; intro i h1 h2; rw [hf i h1 h2]; exact h _ h1 h2 _
  · iexact H

theorem RX_split (lo a b : ℕ) (q) : (RX c M lo (a + b) q : sProp 𝕄) ⊢ iprop(RX (τ := τ) c M lo a q ∗ RX c M (lo + a) b q) := by
  unfold RX; rw [rset_add]
  iintro ⟨%f, H⟩
  ihave H := (pointsTo_union (rset_disjoint M lo a b)).1 $$ H
  icases H with ⟨H1, H2⟩
  isplitl [H1]
  · iexists f; iexact H1
  · iexists f; iexact H2

theorem RW_split (lo a b : ℕ) (q) (G : ℕ → Fin 512 → Val .bf16) :
    (RW c M lo (a + b) q G : sProp 𝕄) ⊢ iprop(RW (τ := τ) c M lo a q G ∗ RW c M (lo + a) b q G) := by
  unfold RW; rw [rset_add]
  iintro ⟨%f, %hf, H⟩
  ihave H := (pointsTo_union (rset_disjoint M lo a b)).1 $$ H
  icases H with ⟨H1, H2⟩
  isplitl [H1]
  · iexists f; isplitr
    · ipureintro; intro i h1 h2; exact hf i h1 (by omega)
    · iexact H1
  · iexists f; isplitr
    · ipureintro; intro i h1 h2; exact hf i (by omega) (by omega)
    · iexact H2

theorem RX_join (lo a b : ℕ) (q) : iprop(RX c M lo a q ∗ RX c M (lo + a) b q) ⊢ (RX (τ := τ) c M lo (a + b) q : sProp 𝕄) := by
  unfold RX; rw [rset_add]
  iintro ⟨⟨%f, H1⟩, %g, H2⟩
  iexists _
  iapply pointsTo_join (rset_disjoint M lo a b)
  isplitl [H1] <;> iassumption

theorem RW_join (lo a b : ℕ) (q) (G : ℕ → Fin 512 → Val .bf16) :
    iprop(RW c M lo a q G ∗ RW c M (lo + a) b q G) ⊢ (RW (τ := τ) c M lo (a + b) q G : sProp 𝕄) := by
  unfold RW; rw [rset_add]
  iintro ⟨⟨%f, %hf, H1⟩, %g, %hg, H2⟩
  iexists ((rset M (lo + a) b).piecewise g f)
  isplitr
  · ipureintro; intro i h1 h2
    by_cases h : lo + a ≤ (i 0).val
    · rw [← hg i h (by omega)]
      unfold View.read
      rw [Finset.piecewise_eq_of_mem _ _ _ ((mem_rset M i).mpr ⟨h, by omega⟩)]
    · rw [← hf i h1 (by omega)]
      unfold View.read
      rw [Finset.piecewise_eq_of_notMem _ _ _ (fun h' => h ((mem_rset M i).mp h').1)]
  · iapply pointsTo_join (rset_disjoint M lo a b)
    isplitl [H1] <;> iassumption

theorem RW_share {lo n : ℕ} {q : PosShare TreeShare} (G : ℕ → Fin 512 → Val .bf16) :
    (RW c M lo n q G : sProp 𝕄) ⊢ iprop(RW (τ := τ) c M lo n q.left G ∗ RW c M lo n q.right G) := by
  unfold RW
  iintro ⟨%f, %hf, H⟩
  ihave H := (pointsTo_share (PosShare.mem_left_op_right q)).1 $$ H
  icases H with ⟨H1, H2⟩
  isplitl [H1]
  · iexists f; isplitr
    · ipureintro; exact hf
    · iexact H1
  · iexists f; isplitr
    · ipureintro; exact hf
    · iexact H2

theorem RW_unshare {lo n : ℕ} {q : PosShare TreeShare} (G G' : ℕ → Fin 512 → Val .bf16) :
    iprop(RW c M lo n q.left G' ∗ RW c M lo n q.right G) ⊢ (RW (τ := τ) c M lo n q G : sProp 𝕄) := by
  have key : ∀ f g : Buf Val (M.view.loc (c : Thread nD τ)),
      iprop(((M.view.loc (c : Thread nD τ)) ↦[rset M lo n]{q.left} f) ∗ (M.view.loc (c : Thread nD τ)) ↦[rset M lo n]{q.right} g)
        ⊢ ((M.view.loc (c : Thread nD τ)) ↦[rset M lo n]{q} g : sProp 𝕄) := fun f g => by
    refine pure_elim _ (pointsTo_agree (q₁ := q.left) (q₂ := q.right)) fun hag => ?_
    rw [pointsTo_congr (q := q.left) (f := f) (g := g) (fun i hi => (hag i (Finset.mem_inter.mpr ⟨hi, hi⟩)).1)]
    exact (pointsTo_share (PosShare.mem_left_op_right q)).2
  unfold RW
  iintro ⟨⟨%f, %hf, H1⟩, %g, %hg, H2⟩
  iexists g; isplitr
  · ipureintro; exact hg
  · iapply key f g
    isplitl [H1] <;> iassumption

end Laws

section Steps
variable [Preorder Lvl] {defs : Defs nD τ sig Val Λ} (𝒱 : Variants) (c : Dev nD)
  (bd : Option 𝒱.V) {Γ : PendingWaitsCtx sig Ix} (E : Set Name)
variable {α : Type} {Ψ : α → sProp (MT nD τ sig Ix Val Name U Lvl)}

/-- A load of `n` rows out of an owned region `lo', …, lo' + n' - 1`. -/
theorem wp_loadR {M : Memref sig .tc .vmem ⟨2, ![H, 512]⟩ .bf16} {n lo : ℕ} {off : Fin 2 → ℕ} (hoff : off = ![lo, 0])
    {inb : ∀ a, off a + (![n, 512] : Fin 2 → ℕ) a ≤ (⟨2, ![H, 512]⟩ : Shape).size a}
    {q : PosShare TreeShare} {G : ℕ → Fin 512 → Val .bf16}
    {hl : M.view.LoadsAt (Rect.unit (s := ⟨2, ![H, 512]⟩) off ![n, 512] inb).toLoadRect}
    {k : ((⟨2, ![n, 512]⟩ : Shape).Idx → Val .bf16) → Prog (TpuEff nD τ sig Val Λ .tc) α} :
    (RW c M lo n q G : sProp 𝕄)
      ⊢ iprop((RW c M lo n q G -∗ wp frame (wpE' defs 𝒱 (c : Thread nD τ) bd Γ) E (k (vecOf n G lo)) Ψ)
        -∗ wp frame (wpE' defs 𝒱 (c : Thread nD τ) bd Γ) E
          (.op (.load M (Rect.unit (s := ⟨2, ![H, 512]⟩) off ![n, 512] inb).toLoadRect hl) k) Ψ) := by
  unfold RW
  iintro ⟨%f, %hf, H⟩ Hk
  have hv := read_slice M hoff inb hf
  have step := (wp_load_rect 𝒱 (c : Thread nD τ) bd E (Γ := Γ) (defs := defs) (Q := Ψ) (m := M) (r := Rect.unit (s := ⟨2, ![H, 512]⟩) off ![n, 512] inb) (hl := hl) (S := rset M lo n) (q := q) (f := f)
    (k := k) (rset_slice M hoff inb).symm.subset)
  iapply step $$ H
  iintro H
  rw [show (M.access (Rect.unit (s := ⟨2, ![H, 512]⟩) off ![n, 512] inb)).read Val f = vecOf n G lo from hv]
  iapply Hk
  iexists f; isplitr
  · ipureintro; exact hf
  · iexact H

/-- A store of `n` rows into an owned region. -/
theorem wp_storeR {M : Memref sig .tc .vmem ⟨2, ![H, 512]⟩ .bf16} {n lo : ℕ} {off : Fin 2 → ℕ} (hoff : off = ![lo, 0])
    {inb : ∀ a, off a + (![n, 512] : Fin 2 → ℕ) a ≤ (⟨2, ![H, 512]⟩ : Shape).size a}
    {G : ℕ → Fin 512 → Val .bf16} {w : (⟨2, ![n, 512]⟩ : Shape).Idx → Val .bf16} (hw : w = vecOf n G lo)
    {hx : (M.access (Rect.unit (s := ⟨2, ![H, 512]⟩) off ![n, 512] inb)).Stores Finset.univ}
    {hm : (Finset.univ : Finset (Rect.unit (s := ⟨2, ![H, 512]⟩) off ![n, 512] inb).shape.Idx) = Finset.univ
      ∨ ∀ a, (Rect.unit (s := ⟨2, ![H, 512]⟩) off ![n, 512] inb).stride a = 1}
    {k : PUnit → Prog (TpuEff nD τ sig Val Λ .tc) α} :
    (RX c M lo n fullShare : sProp 𝕄)
      ⊢ iprop((RW c M lo n fullShare G -∗ wp frame (wpE' defs 𝒱 (c : Thread nD τ) bd Γ) E (k ⟨⟩) Ψ)
        -∗ wp frame (wpE' defs 𝒱 (c : Thread nD τ) bd Γ) E
          (.op (.store M (Rect.unit (s := ⟨2, ![H, 512]⟩) off ![n, 512] inb) w Finset.univ hx hm) k) Ψ) := by
  unfold RX RW
  iintro ⟨%f, H⟩ Hk
  iapply (wp_store 𝒱 (c : Thread nD τ) bd E (m := M) (r := Rect.unit (s := ⟨2, ![H, 512]⟩) off ![n, 512] inb) (hx := hx) (hm := hm) (S := rset M lo n) (f := f)
    (k := k) (rset_slice M hoff inb).symm.subset) $$ H
  iintro H
  iapply Hk
  iexists _; isplitr
  rotate_left
  · iexact H
  · ipureintro; exact holds_write M hoff inb f w hw

end Steps

end Cert.Rows
-- ==== Proof.KernelIdeal.Schedule.lean ====
/-
The exchange of the kernel: who sends which rows to whom, and what each semaphore hands over.

Eight devices, two slabs `j = 0, 1` of 512 columns each. In the reduce half, step `s = 0, 1, 2` of slab `j` pairs device
`c` with the device whose number differs by the bit `msk j s`; each sends the half of its current rows it gives up and adds what
arrives to the half it keeps. In the gather half the steps are undone in the order `2, 1, 0`: each device sends the rows it holds
finished to the same partner. The contents are followed from arbitrary starting rows `w0 j c`.
-/
module

public import proofs.«01_k».proof.Proof.Regions
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Places -/

/-- The device whose number differs from `c`'s by the bits of `b`. -/
def px (b : ℕ) (c : Dev nD) : Dev nD := ⟨(c.val ^^^ b) % 8, Nat.mod_lt _ (by decide)⟩

/-- The bit slab `j` exchanges across at step `s`. -/
def msk (j : Fin 2) (s : ℕ) : ℕ := if j = 0 then 4 / 2 ^ s else 2 ^ s
/-- The rows sent at step `s`. -/
def rows (s : ℕ) : ℕ := 512 / 2 ^ s
/-- Where in the receive buffer step `s` lands. -/
def roff (s : ℕ) : ℕ := 1024 - 1024 / 2 ^ s
def bit (b : ℕ) (c : Dev nD) : ℕ := c.val / b % 2
/-- The first row kept before step `s`. -/
def klo (j : Fin 2) : ℕ → Dev nD → ℕ
  | 0, _ => 0
  | s + 1, c => klo j s c + rows s * bit (msk j s) c
/-- The first row given up at step `s`. -/
def sent (j : Fin 2) (s : ℕ) (c : Dev nD) : ℕ := klo j s c + rows s * (1 - bit (msk j s) c)

/-- The partner at step `s`. -/
abbrev pt (j : Fin 2) (s : ℕ) (c : Dev nD) : Dev nD := px (msk j s) c

theorem px_px (b : Fin 8) (c : Dev nD) : px b.val (px b.val c) = c := by revert b c; decide
theorem pt_pt (j : Fin 2) (s : Fin 3) (c : Dev nD) : pt j s.val (pt j s.val c) = c := by revert j s c; decide
theorem sent_pt (j : Fin 2) (s : Fin 3) (c : Dev nD) : sent j s.val (pt j s.val c) = klo j (s.val + 1) c := by revert j s c; decide
theorem klo_pt (j : Fin 2) (s : Fin 3) (c : Dev nD) : klo j (s.val + 1) (pt j s.val c) = sent j s.val c := by revert j s c; decide
theorem kept_sent (j : Fin 2) (s : Fin 3) (c : Dev nD) :
    (klo j (s.val + 1) c = klo j s.val c ∧ sent j s.val c = klo j s.val c + rows s.val)
      ∨ (sent j s.val c = klo j s.val c ∧ klo j (s.val + 1) c = klo j s.val c + rows s.val) := by revert j s c; decide

/-- The device that holds row `r` of slab `j` finished after the reduce half. -/
def own (j : Fin 2) (r : ℕ) : Dev nD :=
  if j = 0 then ⟨r / 128 % 8, Nat.mod_lt _ (by decide)⟩
  else ⟨(r / 128 / 4 % 2 + 2 * (r / 128 / 2 % 2) + 4 * (r / 128 % 2)) % 8, Nat.mod_lt _ (by decide)⟩

theorem own_blk : ∀ (j : Fin 2) (c : Dev nD), klo j 3 c % 128 = 0 ∧ own j (klo j 3 c) = c := by decide
theorem own_klo (j : Fin 2) (c : Dev nD) (r : ℕ) (h1 : klo j 3 c ≤ r) (h2 : r < klo j 3 c + 128) : own j r = c := by
  obtain ⟨h, h'⟩ := own_blk j c
  have : r / 128 = klo j 3 c / 128 := by omega
  rw [← h']; simp only [own, this]

/-! ## Memrefs and cells -/

/-- Slab `j`'s working buffer. -/
def wM : Fin 2 → Memref sig .tc .vmem ⟨2, ![1024, 512]⟩ .bf16
  | ⟨0, _⟩ => Memref.whole cc0_scratch0
  | ⟨1, _⟩ => Memref.whole cc0_scratch1
/-- Slab `j`'s receive buffer. -/
def rM : Fin 2 → Memref sig .tc .vmem ⟨2, ![896, 512]⟩ .bf16
  | ⟨0, _⟩ => Memref.whole cc0_scratch2
  | ⟨1, _⟩ => Memref.whole cc0_scratch3

/-- Transfer numbers: the reduce half's step `s`, the gather half's undoing of step `s`. -/
def tR (j : Fin 2) (s : ℕ) : Fin 12 := ⟨(2 * s + j.val) % 12, Nat.mod_lt _ (by decide)⟩
def tG (j : Fin 2) (s : ℕ) : Fin 12 := ⟨(6 + 2 * (2 - s) + j.val) % 12, Nat.mod_lt _ (by decide)⟩
/-- The slab and the step of a transfer number. -/
def tj (t : Fin 12) : Fin 2 := ⟨t.val % 2, Nat.mod_lt _ (by decide)⟩
def ts (t : Fin 12) : ℕ := if t.val < 6 then t.val / 2 else (11 - t.val) / 2
abbrev tp (t : Fin 12) (c : Dev nD) : Dev nD := pt (tj t) (ts t) c

theorem tp_tp (t : Fin 12) (c : Dev nD) : tp t (tp t c) = c := by revert t c; decide

abbrev barS : Sem sig := (SemArray.scalar (sig.barrier 0 rfl) : Sems sig S_).sem
def sS (t : Fin 12) : SemLoc sig := .dma (⟨9 + t.val, by have := t.isLt; show 9 + t.val < 33; omega⟩ : Fin 33)
def rS (t : Fin 12) : SemLoc sig := .dma (⟨21 + t.val, by have := t.isLt; show 21 + t.val < 33; omega⟩ : Fin 33)

abbrev barCell (c : Dev nD) : GSem nD τ sig := ((c : Thread nD τ), .reg barS)
abbrev sCell (t : Fin 12) (c : Dev nD) : GSem nD τ sig := ((c : Thread nD τ), sS t)
abbrev rCell (t : Fin 12) (c : Dev nD) : GSem nD τ sig := ((c : Thread nD τ), rS t)

/-- What a transfer of step `s`'s rows into the receive (`NR`) or the working (`NG`) buffer credits. -/
def NR (j : Fin 2) (s : ℕ) : ℕ := sig.dmaCredit .tc (Kind.table .tc .vmem) (rM j).view.buf ⟨2, ![rows s, 512]⟩ .bf16
def NG (j : Fin 2) (s : ℕ) : ℕ := sig.dmaCredit .tc (Kind.table .tc .vmem) (wM j).view.buf ⟨2, ![rows s, 512]⟩ .bf16
def Nt (t : Fin 12) : ℕ := if t.val < 6 then NR (tj t) (ts t) else NG (tj t) (ts t)

theorem rows_pos (t : Fin 12) : 0 < (⟨2, ![rows (ts t), 512]⟩ : Shape).numel := by
  have : ∀ t : Fin 12, 0 < rows (ts t) := by decide
  simp only [Shape.numel, Fin.prod_univ_two]
  exact Nat.mul_pos (this t) (Nat.succ_pos 511)
theorem Nt_pos (t : Fin 12) : 0 < Nt t := by
  unfold Nt NR NG
  split <;> exact sig.dmaCredit_pos _ _ _ _ _ (rows_pos t)
theorem Nt_R (j : Fin 2) (s : Fin 3) : Nt (tR j s.val) = NR j s.val := by
  have h : ∀ (j : Fin 2) (s : Fin 3), (tR j s.val).val < 6 ∧ tj (tR j s.val) = j ∧ ts (tR j s.val) = s.val := by decide
  unfold Nt; rw [if_pos (h j s).1, (h j s).2.1, (h j s).2.2]
theorem Nt_G (j : Fin 2) (s : Fin 3) : Nt (tG j s.val) = NG j s.val := by
  have h : ∀ (j : Fin 2) (s : Fin 3), ¬ (tG j s.val).val < 6 ∧ tj (tG j s.val) = j ∧ ts (tG j s.val) = s.val := by decide
  unfold Nt; rw [if_neg (h j s).1, (h j s).2.1, (h j s).2.2]
theorem tp_R (j : Fin 2) (s : Fin 3) (c : Dev nD) : tp (tR j s.val) c = pt j s.val c := by revert j s c; decide
theorem tp_G (j : Fin 2) (s : Fin 3) (c : Dev nD) : tp (tG j s.val) c = pt j s.val c := by revert j s c; decide

/-! ## Contents -/

/-- The sum a reduce step stores: both terms widened, added, narrowed. -/
def comb (a b : Elt F .bf16) : Elt F .bf16 :=
  FloatOps.truncf .bf16 bitsLt_bf16_f32 (FloatOps.addf (FloatOps.extf .f32 bitsLt_bf16_f32 a) (FloatOps.extf .f32 bitsLt_bf16_f32 b))

section Contents
variable (w0 : Fin 2 → Dev nD → ℕ → Fin 512 → Elt F .bf16)

/-- Slab `j` on device `c` after `s` reduce steps (on the rows it still keeps). -/
def wS (j : Fin 2) : ℕ → Dev nD → ℕ → Fin 512 → Elt F .bf16
  | 0, c => w0 j c
  | s + 1, c => fun r k => comb (wS j s c r k) (wS j s (pt j s c) r k)

/-- Slab `j` finished. -/
def fin (j : Fin 2) (r : ℕ) (k : Fin 512) : Elt F .bf16 := wS w0 j 3 (own j r) r k

/-- What step `s` lands in the receive buffer of device `p`. -/
def landed (j : Fin 2) (s : ℕ) (p : Dev nD) : ℕ → Fin 512 → Elt F .bf16 :=
  fun r k => wS w0 j s (pt j s p) (sent j s (pt j s p) + (r - roff s)) k

/-- The share of the rows lent to the gather transfer that undoes step `s`, and the share held besides. -/
def lent : ℕ → PosShare TreeShare
  | 2 => (fullShare : PosShare TreeShare).left
  | 1 => (fullShare : PosShare TreeShare).right.left
  | _ => (fullShare : PosShare TreeShare).right.right.left

/-- What the receive semaphore of step `s` hands its device: the landed rows, and the partner's given-up rows. -/
def payR (j : Fin 2) (s : ℕ) (p : Dev nD) : sProp 𝕄 :=
  iprop(RW p (rM j) (roff s) (rows s) fullShare (landed w0 j s p) ∗ RX (pt j s p) (wM j) (sent j s (pt j s p)) (rows s) fullShare)
/-- What the receive semaphore of the undoing of step `s` hands its device: the rows it had given up, finished. -/
def payG (j : Fin 2) (s : ℕ) (p : Dev nD) : sProp 𝕄 := RW p (wM j) (sent j s p) (rows s) fullShare (fin w0 j)
/-- What the send semaphore of the undoing of step `s` hands back: the lent share. -/
def payS (j : Fin 2) (s : ℕ) (c : Dev nD) : sProp 𝕄 := RW c (wM j) (klo j (s + 1) c) (rows s) (lent s) (fin w0 j)

/-- The receive payload and the send payload by transfer number. -/
def rPay (t : Fin 12) (c : Dev nD) : sProp 𝕄 := if t.val < 6 then payR w0 (tj t) (ts t) c else payG w0 (tj t) (ts t) c
def sPay (t : Fin 12) (c : Dev nD) : sProp 𝕄 := if t.val < 6 then iprop(emp) else payS w0 (tj t) (ts t) c

/-- What the entry signal of `px b c` hands `c` (`b = 4, 2, 1` at `d = 0, 1, 2`): the two landing places `c` sends into across that bit,
    and the marks of the four receive semaphores there. -/
def bm (d : Fin 3) : ℕ := 4 / 2 ^ d.val
def barPay (c : Dev nD) (d : Fin 3) : sProp 𝕄 :=
  iprop(RX (px (bm d) c) (rM 0) (roff d.val) (rows d.val) fullShare ∗ RX (px (bm d) c) (rM 1) (roff (2 - d.val)) (rows (2 - d.val)) fullShare
    ∗ reached ER (rCell (tR 0 d.val) (px (bm d) c)) 0 ∗ reached ER (rCell (tR 1 (2 - d.val)) (px (bm d) c)) 0
    ∗ reached ER (rCell (tG 0 d.val) (px (bm d) c)) 0 ∗ reached ER (rCell (tG 1 (2 - d.val)) (px (bm d) c)) 0)

omit [FloatOps F] in
instance barPay_storable (c : Dev nD) (d : Fin 3) : BI.Storable (upEmb : UEmb _ 𝕄) (barPay (F := F) c d) := by unfold barPay; infer_instance
instance rPay_storable (t : Fin 12) (c : Dev nD) : BI.Storable (upEmb : UEmb _ 𝕄) (rPay w0 t c) := by
  unfold rPay payR payG; split <;> infer_instance
instance sPay_storable (t : Fin 12) (c : Dev nD) : BI.Storable (upEmb : UEmb _ 𝕄) (sPay w0 t c) := by
  unfold sPay payS; split <;> infer_instance

/-! ## The schedule -/

/-- The transfer number of a DMA semaphore number, among the send and among the receive ones. -/
def dS (q : ℕ) : Fin 12 := ⟨(q - 9) % 12, Nat.mod_lt _ (by decide)⟩
def dR (q : ℕ) : Fin 12 := ⟨(q - 21) % 12, Nat.mod_lt _ (by decide)⟩

def dutOf : SemLoc sig → Finset (Fin 3)
  | .reg _ => Finset.univ
  | .dma q => if 9 ≤ (show Fin 33 from q).val then {0} else ∅
def amtOf : SemLoc sig → ℕ
  | .reg _ => 1
  | .dma q => if (show Fin 33 from q).val < 21 then Nt (dS (show Fin 33 from q).val) else Nt (dR (show Fin 33 from q).val)
def payOf (c : Dev nD) (d : Fin 3) : SemLoc sig → sProp 𝕄
  | .reg _ => barPay c d
  | .dma q => if (show Fin 33 from q).val < 21 then sPay w0 (dS (show Fin 33 from q).val) c else rPay w0 (dR (show Fin 33 from q).val) c

def Rd : Rounds.Schedule (GSem nD τ sig) (Fin 3) 𝕄 where
  duties g r := if r = 0 ∧ g.1.2 = .tc then dutOf g.2 else ∅
  unitless _ := False
  amount g _ _ := amtOf g.2
  payload g _ d := payOf w0 g.1.1 d g.2
  amount_pos g _ _ _ := by
    cases g.2 with
    | reg _ => exact Nat.one_pos
    | dma q => unfold amtOf; dsimp only; split <;> exact Nt_pos _

instance Rd_storable (g : GSem nD τ sig) (r : ℕ) (d : Fin 3) : BI.Storable (upEmb : UEmb _ 𝕄) ((Rd w0).payload g r d) := by
  show BI.Storable upEmb (payOf w0 g.1.1 d g.2)
  cases g.2 with
  | reg _ => exact barPay_storable g.1.1 d
  | dma q => unfold payOf; dsimp only; split <;> infer_instance

theorem dS_eq (t : Fin 12) : dS (9 + t.val) = t := by revert t; decide
theorem dR_eq (t : Fin 12) : dR (21 + t.val) = t := by revert t; decide

section Sched
variable (c : Dev nD) (t : Fin 12) (d : Fin 3)

theorem duties_zero (sm : SemLoc sig) : (Rd w0).duties ((c : Thread nD τ), sm) 0 = dutOf sm := by
  dsimp only [Rd]; exact if_pos ⟨rfl, rfl⟩
theorem duties_bar : (Rd w0).duties (barCell c) 0 = Finset.univ := duties_zero w0 c _
theorem duties_s : (Rd w0).duties (sCell t c) 0 = {0} := by
  rw [duties_zero]; unfold dutOf sS; dsimp only; exact if_pos (by show 9 ≤ 9 + t.val; omega)
theorem duties_r : (Rd w0).duties (rCell t c) 0 = {0} := by
  rw [duties_zero]; unfold dutOf rS; dsimp only; exact if_pos (by show 9 ≤ 21 + t.val; omega)
theorem duties_later (g : GSem nD τ sig) : ∀ r, 1 ≤ r → (Rd w0).duties g r = ∅ :=
  fun r hr => if_neg fun h => by omega

theorem amount_bar : (Rd w0).amount (barCell c) 0 d = 1 := rfl
theorem amount_s : (Rd w0).amount (sCell t c) 0 d = Nt t := by
  show amtOf (sS t) = _
  unfold amtOf sS; dsimp only
  exact (if_pos (by show 9 + t.val < 21; have := t.isLt; omega)).trans (congrArg Nt (dS_eq t))
theorem amount_r : (Rd w0).amount (rCell t c) 0 d = Nt t := by
  show amtOf (rS t) = _
  unfold amtOf rS; dsimp only
  exact (if_neg (by show ¬ 21 + t.val < 21; omega)).trans (congrArg Nt (dR_eq t))

theorem payload_bar : (Rd w0).payload (barCell c) 0 d = barPay c d := rfl
theorem payload_s : (Rd w0).payload (sCell t c) 0 d = sPay w0 t c := by
  show payOf w0 c d (sS t) = _
  unfold payOf sS; dsimp only
  exact (if_pos (by show 9 + t.val < 21; have := t.isLt; omega)).trans (congrArg (fun t => sPay w0 t c) (dS_eq t))
theorem payload_r : (Rd w0).payload (rCell t c) 0 d = rPay w0 t c := by
  show payOf w0 c d (rS t) = _
  unfold payOf rS; dsimp only
  exact (if_neg (by show ¬ 21 + t.val < 21; omega)).trans (congrArg (fun t => rPay w0 t c) (dR_eq t))

theorem expect_bar : (Rd w0).expect (barCell c) 0 = 3 := by
  unfold Schedule.expect Schedule.amountOf
  rw [duties_bar, Finset.sum_congr rfl fun d _ => amount_bar w0 c d, Finset.sum_const, Finset.card_univ, Fintype.card_fin, smul_eq_mul]
theorem expect_s : (Rd w0).expect (sCell t c) 0 = Nt t := by
  unfold Schedule.expect Schedule.amountOf; rw [duties_s, Finset.sum_singleton, amount_s]
theorem expect_r : (Rd w0).expect (rCell t c) 0 = Nt t := by
  unfold Schedule.expect Schedule.amountOf; rw [duties_r, Finset.sum_singleton, amount_r]

theorem rest_bar : bigSep ((Rd w0).duties (barCell c) 0 \ ∅) (fun d => (Rd w0).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_s : bigSep ((Rd w0).duties (sCell t c) 0 \ ∅) (fun d => (Rd w0).payload (sCell t c) 0 d) = sPay w0 t c := by
  rw [Finset.sdiff_empty, duties_s, bigSep_singleton, payload_s]
theorem rest_r : bigSep ((Rd w0).duties (rCell t c) 0 \ ∅) (fun d => (Rd w0).payload (rCell t c) 0 d) = rPay w0 t c := by
  rw [Finset.sdiff_empty, duties_r, bigSep_singleton, payload_r]

end Sched

theorem rPay_R (j : Fin 2) (s : Fin 3) (c : Dev nD) : rPay w0 (tR j s.val) c = payR w0 j s.val c := by
  have h : ∀ (j : Fin 2) (s : Fin 3), (tR j s.val).val < 6 ∧ tj (tR j s.val) = j ∧ ts (tR j s.val) = s.val := by decide
  unfold rPay; rw [if_pos (h j s).1, (h j s).2.1, (h j s).2.2]
theorem rPay_G (j : Fin 2) (s : Fin 3) (c : Dev nD) : rPay w0 (tG j s.val) c = payG w0 j s.val c := by
  have h : ∀ (j : Fin 2) (s : Fin 3), ¬ (tG j s.val).val < 6 ∧ tj (tG j s.val) = j ∧ ts (tG j s.val) = s.val := by decide
  unfold rPay; rw [if_neg (h j s).1, (h j s).2.1, (h j s).2.2]
theorem sPay_R (j : Fin 2) (s : Fin 3) (c : Dev nD) : sPay w0 (tR j s.val) c = iprop(emp) := by
  have h : ∀ (j : Fin 2) (s : Fin 3), (tR j s.val).val < 6 := by decide
  unfold sPay; rw [if_pos (h j s)]
theorem sPay_G (j : Fin 2) (s : Fin 3) (c : Dev nD) : sPay w0 (tG j s.val) c = payS w0 j s.val c := by
  have h : ∀ (j : Fin 2) (s : Fin 3), ¬ (tG j s.val).val < 6 ∧ tj (tG j s.val) = j ∧ ts (tG j s.val) = s.val := by decide
  unfold sPay; rw [if_neg (h j s).1, (h j s).2.1, (h j s).2.2]

end Contents

/-! ## What each device owes; the levels -/

/-- The last `n` transfers' receive credits. -/
def OwR (c : Dev nD) : ℕ → CellTallies nD τ sig Unit
  | 0 => 0
  | n + 1 => OwR c n + tallyAt (rCell ⟨(11 - n) % 12, Nat.mod_lt _ (by decide)⟩ (tp ⟨(11 - n) % 12, Nat.mod_lt _ (by decide)⟩ c)) ()
      (Nt ⟨(11 - n) % 12, Nat.mod_lt _ (by decide)⟩)
/-- The receive credits of the transfers `k, …, 11`. -/
def Ow (c : Dev nD) (k : ℕ) : CellTallies nD τ sig Unit := OwR c (12 - k)

theorem Ow_step (c : Dev nD) (t : Fin 12) : Ow c t.val = Ow c (t.val + 1) + tallyAt (rCell t (tp t c)) () (Nt t) := by
  have h : 12 - t.val = (12 - (t.val + 1)) + 1 := by have := t.isLt; omega
  have e : (⟨(11 - (12 - (t.val + 1))) % 12, Nat.mod_lt _ (by decide)⟩ : Fin 12) = t := by revert t; decide
  unfold Ow; rw [h]
  show OwR c _ + _ = _
  rw [e]
theorem Ow_end (c : Dev nD) : Ow c 12 = 0 := rfl

/-- With the three entry signals, the one to `px 4 c` to be paid first. -/
def O₃ (c : Dev nD) : CellTallies nD τ sig Unit := Ow c 0 + tallyAt (barCell (px 1 c)) () 1
def O₂ (c : Dev nD) : CellTallies nD τ sig Unit := O₃ c + tallyAt (barCell (px 2 c)) () 1
def O₀ (c : Dev nD) : CellTallies nD τ sig Unit := O₂ c + tallyAt (barCell (px 4 c)) () 1

def L (g : GSem nD τ sig) : Finset Unit := if g.1.2 = .tc then {()} else ∅
def lvOf : SemLoc sig → ℕ
  | .reg _ => 1
  | .dma q => if (show Fin 33 from q).val < 21 then 0 else 2 + ((show Fin 33 from q).val - 21) / 2
/-- Staging and send semaphores at 0, the entry barrier at 1, the receive semaphores above in program order. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lvOf_r (t : Fin 12) : lvOf (rS t) = 2 + t.val / 2 := by
  unfold lvOf rS; dsimp only
  exact (if_neg (by show ¬ 21 + t.val < 21; omega)).trans (by show 2 + (21 + t.val - 21) / 2 = _; omega)
theorem lvOf_s (t : Fin 12) : lvOf (sS t) = 0 := by
  unfold lvOf sS; dsimp only
  exact if_pos (by show 9 + t.val < 21; have := t.isLt; omega)

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem OwR_pos (c : Dev nD) {g : GSem nD τ sig} {u : Unit} : ∀ n ≤ 12, 0 < OwR c n g u → ∃ t : Fin 12, 12 - n ≤ t.val ∧ g = rCell t (tp t c)
  | 0, _, h => absurd h (Nat.lt_irrefl 0)
  | n + 1, hn, h => by
    unfold OwR at h
    rw [Pi.add_apply, Finsupp.add_apply] at h
    by_cases h' : 0 < OwR c n g u
    · obtain ⟨t, ht, hg⟩ := OwR_pos c n (by omega) h'
      exact ⟨t, by omega, hg⟩
    · refine ⟨⟨(11 - n) % 12, Nat.mod_lt _ (by decide)⟩, by dsimp only; omega, tallyAt_pos (n := Nt ⟨(11 - n) % 12, Nat.mod_lt _ (by decide)⟩) (u := u) (by omega)⟩

theorem Ow_pos (c : Dev nD) (k : ℕ) {g : GSem nD τ sig} {u : Unit} (hk : k ≤ 12) (h : 0 < Ow c k g u) :
    ∃ t : Fin 12, k ≤ t.val ∧ g = rCell t (tp t c) := by
  obtain ⟨t, ht, hg⟩ := OwR_pos c (12 - k) (by omega) h
  exact ⟨t, by omega, hg⟩

theorem O₀_pos {c : Dev nD} {g : GSem nD τ sig} {u : Unit} (h : 0 < O₀ c g u) :
    (∃ t : Fin 12, g = rCell t (tp t c)) ∨ ∃ b, g = barCell (px b c) := by
  unfold O₀ O₂ O₃ at h
  rw [Pi.add_apply, Finsupp.add_apply, Pi.add_apply, Finsupp.add_apply, Pi.add_apply, Finsupp.add_apply] at h
  by_cases h4 : 0 < (tallyAt (barCell (px 4 c)) () 1 : CellTallies nD τ sig Unit) g u
  · exact .inr ⟨4, tallyAt_pos h4⟩
  by_cases h2 : 0 < (tallyAt (barCell (px 2 c)) () 1 : CellTallies nD τ sig Unit) g u
  · exact .inr ⟨2, tallyAt_pos h2⟩
  by_cases h1 : 0 < (tallyAt (barCell (px 1 c)) () 1 : CellTallies nD τ sig Unit) g u
  · exact .inr ⟨1, tallyAt_pos h1⟩
  obtain ⟨t, _, hg⟩ := Ow_pos c 0 (g := g) (u := u) (by omega) (by omega)
  exact .inl ⟨t, hg⟩

omit [FloatOps F] in
/-- A wait on a cell of device `c` below everything it still owes. -/
theorem mayWait_of (c : Dev nD) (sm : SemLoc sig) (O : CellTallies nD τ sig Unit)
    (h : ∀ g u, 0 < O g u → g.1.2 = .tc ∧ lvOf sm < lvOf g.2) :
    (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_rfl)
    (fun g u hg => (h g u hg).2)

omit [FloatOps F] in
theorem mayWait_stage (c : Dev nD) (q : DmaSem sig) (hq : (show Fin 33 from q).val < 21) (O : CellTallies nD τ sig Unit) (hO : O = O₀ c ∨ O = 0) :
    (levAts L lv : sProp 𝕄) ⊢ MayWait (c : Thread nD τ) (.dma q) () O := by
  have hl : lvOf (.dma q) = 0 := if_pos hq
  rcases hO with rfl | rfl
  · refine mayWait_of c _ _ fun g u hg => ?_
    rw [hl]
    rcases O₀_pos hg with ⟨t, rfl⟩ | ⟨b, rfl⟩
    · exact ⟨rfl, by rw [lvOf_r]; omega⟩
    · exact ⟨rfl, Nat.one_pos⟩
  · rw [MayWait_zero]; iintro -; iempintro

omit [FloatOps F] in
theorem mayWait_bar (c : Dev nD) : (levAts L lv : sProp 𝕄) ⊢ MayWait (c : Thread nD τ) (.reg barS) () (Ow c 0) :=
  mayWait_of c _ _ fun g u hg => by
    obtain ⟨t, _, rfl⟩ := Ow_pos c 0 (by omega) hg
    exact ⟨rfl, by rw [lvOf_r]; show 1 < _; omega⟩

omit [FloatOps F] in
theorem mayWait_r (c : Dev nD) (t : Fin 12) (k : ℕ) (hk : k ≤ 12) (h : t.val / 2 < k / 2) :
    (levAts L lv : sProp 𝕄) ⊢ MayWait (c : Thread nD τ) (rS t) () (Ow c k) :=
  mayWait_of c _ _ fun g u hg => by
    obtain ⟨t', ht', rfl⟩ := Ow_pos c k hk hg
    exact ⟨rfl, by rw [lvOf_r, lvOf_r]; omega⟩

end Cert.KernelIdealProof
-- ==== Proof.KernelIdeal.Steps.lean ====
/-
The steps of the exchange, one rule per kind of effect: the entry signals and the entry wait, a reduce send, a gather send,
a receive wait, a send wait. Each is the rounds library's rule at this schedule.
-/
module

public import proofs.«01_k».proof.Proof.KernelIdeal.Schedule

@[expose] public section

noncomputable section

namespace Cert.KernelIdealProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Splitting a region into the kept and the given-up half -/

section Halves
variable (j : Fin 2) (s : Fin 3) (c : Dev nD)

theorem split_RW (q) (G : ℕ → Fin 512 → Elt F .bf16) :
    (RW c (wM j) (klo j s.val c) (rows s.val + rows s.val) q G : sProp 𝕄)
      ⊢ iprop(RW c (wM j) (sent j s.val c) (rows s.val) q G ∗ RW c (wM j) (klo j (s.val + 1) c) (rows s.val) q G) := by
  rcases kept_sent j s c with ⟨h1, h2⟩ | ⟨h1, h2⟩
  · rw [h1, h2]; exact (RW_split c (wM j) _ _ _ q G).trans sep_comm.1
  · rw [h1, h2]; exact RW_split c (wM j) _ _ _ q G

theorem join_RW (q) (G : ℕ → Fin 512 → Elt F .bf16) :
    iprop(RW c (wM j) (sent j s.val c) (rows s.val) q G ∗ RW c (wM j) (klo j (s.val + 1) c) (rows s.val) q G)
      ⊢ (RW c (wM j) (klo j s.val c) (rows s.val + rows s.val) q G : sProp 𝕄) := by
  rcases kept_sent j s c with ⟨h1, h2⟩ | ⟨h1, h2⟩
  · rw [h1, h2]; exact sep_comm.1.trans (RW_join c (wM j) _ _ _ q G)
  · rw [h1, h2]; exact RW_join c (wM j) _ _ _ q G

end Halves

/-! ## The states of a slab -/

/-- The rows device `c` holds of slab `j` before reduce step `s`; -/
def Slab (w0 : Fin 2 → Dev nD → ℕ → Fin 512 → Elt F .bf16) (j : Fin 2) (s : ℕ) (c : Dev nD) : sProp 𝕄 :=
  RW c (wM j) (klo j s c) (rows s + rows s) fullShare (wS w0 j s c)
/-- the ones kept once the others are on their way; -/
def Kept (w0 : Fin 2 → Dev nD → ℕ → Fin 512 → Elt F .bf16) (j : Fin 2) (s : ℕ) (c : Dev nD) : sProp 𝕄 :=
  RW c (wM j) (klo j (s + 1) c) (rows s) fullShare (wS w0 j s c)
/-- and those with the partner's added. -/
def Next (w0 : Fin 2 → Dev nD → ℕ → Fin 512 → Elt F .bf16) (j : Fin 2) (s : ℕ) (c : Dev nD) : sProp 𝕄 :=
  RW c (wM j) (klo j (s + 1) c) (rows s) fullShare (wS w0 j (s + 1) c)
/-- The landing place at the partner of step `s`, -/
def Land (j : Fin 2) (s : ℕ) (c : Dev nD) : sProp 𝕄 := RX (pt j s c) (rM j) (roff s) (rows s) fullShare
/-- the partner's given-up rows, -/
def Dest (j : Fin 2) (s : ℕ) (c : Dev nD) : sProp 𝕄 := RX (pt j s c) (wM j) (sent j s (pt j s c)) (rows s) fullShare
/-- and the device's own landing place. -/
def Rb (j : Fin 2) (s : ℕ) (c : Dev nD) : sProp 𝕄 := RX c (rM j) (roff s) (rows s) fullShare

/-- The share held while those of steps `s`, `s + 1`, … are lent. -/
def kq : ℕ → PosShare TreeShare
  | 3 => fullShare
  | 2 => (fullShare : PosShare TreeShare).right
  | 1 => (fullShare : PosShare TreeShare).right.right
  | _ => (fullShare : PosShare TreeShare).right.right.right

theorem kq_right (s : Fin 3) : (kq (s.val + 1)).right = kq s.val := by
  match s with
  | ⟨0, _⟩ => rfl
  | ⟨1, _⟩ => rfl
  | ⟨2, _⟩ => rfl
theorem kq_left (s : Fin 3) : (kq (s.val + 1)).left = lent s.val := by
  match s with
  | ⟨0, _⟩ => rfl
  | ⟨1, _⟩ => rfl
  | ⟨2, _⟩ => rfl

/-- The finished rows held before the gather send that undoes step `s`, and after it. -/
def Hold (w0 : Fin 2 → Dev nD → ℕ → Fin 512 → Elt F .bf16) (j : Fin 2) (s : ℕ) (c : Dev nD) : sProp 𝕄 :=
  RW c (wM j) (klo j (s + 1) c) (rows s) (kq (s + 1)) (fin w0 j)
def HoldK (w0 : Fin 2 → Dev nD → ℕ → Fin 512 → Elt F .bf16) (j : Fin 2) (s : ℕ) (c : Dev nD) : sProp 𝕄 :=
  RW c (wM j) (klo j (s + 1) c) (rows s) (kq s) (fin w0 j)

/-- The shares set aside of a region received at step 2, 1, 0. -/
def Aside2 (w0 : Fin 2 → Dev nD → ℕ → Fin 512 → Elt F .bf16) (j : Fin 2) (c : Dev nD) : sProp 𝕄 :=
  RW c (wM j) (sent j 2 c) (rows 2) (lent 2) (fin w0 j)
def Aside1 (w0 : Fin 2 → Dev nD → ℕ → Fin 512 → Elt F .bf16) (j : Fin 2) (c : Dev nD) : sProp 𝕄 :=
  iprop(RW c (wM j) (sent j 1 c) (rows 1) (lent 2) (fin w0 j) ∗ RW c (wM j) (sent j 1 c) (rows 1) (lent 1) (fin w0 j))
def Aside0 (w0 : Fin 2 → Dev nD → ℕ → Fin 512 → Elt F .bf16) (j : Fin 2) (c : Dev nD) : sProp 𝕄 :=
  iprop(RW c (wM j) (sent j 0 c) (rows 0) (lent 2) (fin w0 j) ∗ RW c (wM j) (sent j 0 c) (rows 0) (lent 1) (fin w0 j)
    ∗ RW c (wM j) (sent j 0 c) (rows 0) (lent 0) (fin w0 j))

section Moves
variable (w0 : Fin 2 → Dev nD → ℕ → Fin 512 → Elt F .bf16) (j : Fin 2) (c : Dev nD)

theorem slab_next (s : ℕ) (h : rows s = rows (s + 1) + rows (s + 1)) : Next w0 j s c ⊢ (Slab w0 j (s + 1) c : sProp 𝕄) := by
  unfold Next Slab; rw [h]
theorem hold_next : Next w0 j 2 c ⊢ (Hold w0 j 2 c : sProp 𝕄) := by
  unfold Next Hold
  refine RW_congr c (wM j) ?_
  intro r h1 h2 k
  show wS w0 j 3 c r k = fin w0 j r k
  unfold fin
  rw [own_klo j c r h1 h2]

/-- The received rows beside the kept ones, at the share held; the other shares set aside. -/
theorem recv2 : iprop(payG w0 j 2 c ∗ HoldK w0 j 2 c) ⊢ iprop(Aside2 w0 j c ∗ Hold w0 j 1 c) := by
  unfold payG HoldK Aside2 Hold
  iintro ⟨H, Hk⟩
  icases (RW_share c (wM j) (q := fullShare) (fin w0 j)) $$ H with ⟨Ha, H⟩
  isplitl [Ha]; · iexact Ha
  iapply (join_RW (F := F) j 2 c (kq 2) (fin w0 j))
  isplitl [H]; · iexact H
  iexact Hk
theorem recv1 : iprop(payG w0 j 1 c ∗ HoldK w0 j 1 c) ⊢ iprop(Aside1 w0 j c ∗ Hold w0 j 0 c) := by
  unfold payG HoldK Aside1 Hold
  iintro ⟨H, Hk⟩
  icases (RW_share c (wM j) (q := fullShare) (fin w0 j)) $$ H with ⟨Ha, H⟩
  icases (RW_share c (wM j) (fin w0 j)) $$ H with ⟨Hb, H⟩
  isplitl [Ha Hb]
  · isplitl [Ha]; · iexact Ha
    iexact Hb
  iapply (join_RW (F := F) j 1 c (kq 1) (fin w0 j))
  isplitl [H]; · iexact H
  iexact Hk
theorem recv0 : iprop(payG w0 j 0 c ∗ HoldK w0 j 0 c) ⊢ iprop(Aside0 w0 j c ∗ RW c (wM j) 0 1024 (kq 0) (fin w0 j)) := by
  unfold payG HoldK Aside0
  iintro ⟨H, Hk⟩
  icases (RW_share c (wM j) (q := fullShare) (fin w0 j)) $$ H with ⟨Ha, H⟩
  icases (RW_share c (wM j) (fin w0 j)) $$ H with ⟨Hb, H⟩
  icases (RW_share c (wM j) (fin w0 j)) $$ H with ⟨Hc, H⟩
  isplitl [Ha Hb Hc]
  · isplitl [Ha]; · iexact Ha
    isplitl [Hb]; · iexact Hb
    iexact Hc
  iapply (join_RW (F := F) j 0 c (kq 0) (fin w0 j))
  isplitl [H]; · iexact H
  iexact Hk

/-- Every lent share back: the slab whole again. -/
theorem regroup : iprop(RW c (wM j) 0 1024 (kq 0) (fin w0 j) ∗ Aside2 w0 j c ∗ Aside1 w0 j c ∗ Aside0 w0 j c
      ∗ payS w0 j 2 c ∗ payS w0 j 1 c ∗ payS w0 j 0 c) ⊢ (RX c (wM j) 0 1024 fullShare : sProp 𝕄) := by
  unfold Aside2 Aside1 Aside0 payS
  iintro ⟨H, H22, ⟨H12, H11⟩, ⟨H02, H01, H00⟩, P2, P1, P0⟩
  ihave A2 := (join_RW (F := F) j 2 c (lent 2) (fin w0 j)) $$ [H22 P2]
  · isplitl [H22]; · iexact H22
    iexact P2
  ihave A1 := (join_RW (F := F) j 1 c (lent 2) (fin w0 j)) $$ [H12 A2]
  · isplitl [H12]; · iexact H12
    iexact A2
  ihave A0 := (join_RW (F := F) j 0 c (lent 2) (fin w0 j)) $$ [H02 A1]
  · isplitl [H02]; · iexact H02
    iexact A1
  ihave B1 := (join_RW (F := F) j 1 c (lent 1) (fin w0 j)) $$ [H11 P1]
  · isplitl [H11]; · iexact H11
    iexact P1
  ihave B0 := (join_RW (F := F) j 0 c (lent 1) (fin w0 j)) $$ [H01 B1]
  · isplitl [H01]; · iexact H01
    iexact B1
  ihave C0 := (join_RW (F := F) j 0 c (lent 0) (fin w0 j)) $$ [H00 P0]
  · isplitl [H00]; · iexact H00
    iexact P0
  iapply (RW_forget c (wM j) 0 1024 fullShare (fin w0 j))
  iapply (RW_unshare c (wM j) (q := fullShare) (fin w0 j) (fin w0 j))
  isplitl [A0]; · iexact A0
  iapply (RW_unshare c (wM j) (q := (kq 2)) (fin w0 j) (fin w0 j))
  isplitl [B0]; · iexact B0
  iapply (RW_unshare c (wM j) (q := (kq 1)) (fin w0 j) (fin w0 j))
  isplitl [C0]; · iexact C0
  iexact H

omit [FloatOps F] in
/-- The landing place, whole and in its three parts. -/
theorem rb_split : (RX c (rM j) 0 896 fullShare : sProp 𝕄) ⊢ iprop(Rb (F := F) j 0 c ∗ Rb j 1 c ∗ Rb j 2 c) := by
  unfold Rb
  iintro H
  icases (RX_split c (rM j) 0 512 384 fullShare) $$ H with ⟨Ha, H⟩
  icases (RX_split c (rM j) 512 256 128 fullShare) $$ H with ⟨Hb, H⟩
  isplitl [Ha]; · iexact Ha
  isplitl [Hb]; · iexact Hb
  iexact H
omit [FloatOps F] in
theorem rb_join : iprop(Rb (F := F) j 0 c ∗ Rb j 1 c ∗ Rb j 2 c) ⊢ (RX c (rM j) 0 896 fullShare : sProp 𝕄) := by
  unfold Rb
  iintro ⟨Ha, Hb, Hc⟩
  ihave H := (RX_join c (rM j) 512 256 128 fullShare) $$ [Hb Hc]
  · isplitl [Hb]; · iexact Hb
    iexact Hc
  iapply (RX_join c (rM j) 0 512 384 fullShare)
  isplitl [Ha]; · iexact Ha
  iexact H

end Moves

/-- A member of a product whose other members may be dropped. -/
theorem elem_of {ι : Type} [DecidableEq ι] {S : Finset ι} {x : ι} {Φ : ι → sProp 𝕄} (hx : x ∈ S) : bigSep S Φ ⊢ Φ x := by
  rw [BI.bigSep_erase hx]
  show iprop(Φ x ∗ bigSep _ Φ) ⊢ _
  iintro ⟨H, _⟩
  iexact H

section Steps
variable (w0 : Fin 2 → Dev nD → ℕ → Fin 512 → Elt F .bf16) (K : GSem nD τ sig → ℕ)

/-- The invariants device `c` uses: of its own barrier, send and receive cells, of the three partners' barrier cells, of the receive
    cells it sends to. -/
def invs (c : Dev nD) : sProp 𝕄 :=
  iprop(cellInv ER (Rd w0) (K (barCell c)) (barCell c)
    ∗ (bigSep Finset.univ fun d : Fin 3 => iprop(cellInv ER (Rd w0) (K (barCell (px (bm d) c))) (barCell (px (bm d) c)) ∗ reached ER (barCell (px (bm d) c)) 0))
    ∗ bigSep Finset.univ fun t : Fin 12 => iprop(cellInv ER (Rd w0) (K (sCell t c)) (sCell t c) ∗ cellInv ER (Rd w0) (K (rCell t c)) (rCell t c)
        ∗ cellInv ER (Rd w0) (K (rCell t (tp t c))) (rCell t (tp t c))))

instance invs_persistent (c : Dev nD) : BI.Persistent (invs w0 K c) := by unfold invs; infer_instance

theorem invs_bar (c : Dev nD) : invs w0 K c ⊢ cellInv ER (Rd w0) (K (barCell c)) (barCell c) := by
  unfold invs; iintro ⟨H, _, _⟩; iexact H
theorem invs_nb (c : Dev nD) (d : Fin 3) :
    invs w0 K c ⊢ iprop(cellInv ER (Rd w0) (K (barCell (px (bm d) c))) (barCell (px (bm d) c)) ∗ reached ER (barCell (px (bm d) c)) 0) := by
  unfold invs; iintro ⟨_, H, _⟩
  iapply (elem_of (Finset.mem_univ d) : bigSep Finset.univ (fun d : Fin 3 => iprop(cellInv ER (Rd w0) (K (barCell (px (bm d) c))) (barCell (px (bm d) c)) ∗ reached ER (barCell (px (bm d) c)) 0)) ⊢ _) $$ H
theorem invs_t (c : Dev nD) (t : Fin 12) :
    invs w0 K c ⊢ iprop(cellInv ER (Rd w0) (K (sCell t c)) (sCell t c) ∗ cellInv ER (Rd w0) (K (rCell t c)) (rCell t c)
        ∗ cellInv ER (Rd w0) (K (rCell t (tp t c))) (rCell t (tp t c))) := by
  unfold invs; iintro ⟨_, _, H⟩
  iapply (elem_of (Finset.mem_univ t) : bigSep Finset.univ (fun t : Fin 12 => iprop(cellInv ER (Rd w0) (K (sCell t c)) (sCell t c) ∗ cellInv ER (Rd w0) (K (rCell t c)) (rCell t c)
        ∗ cellInv ER (Rd w0) (K (rCell t (tp t c))) (rCell t (tp t c)))) ⊢ _) $$ H

/-- What device `c` holds for transfer `t` before sending, -/
def Init (c : Dev nD) (t : Fin 12) : sProp 𝕄 :=
  iprop(dutyTok ER (sCell t c) 0 0 ∗ reached ER (sCell t c) 0 ∗ dutyTok ER (rCell t (tp t c)) 0 0
    ∗ atPos ER (sCell t c) 0 ∅ 0 ∗ atPos ER (rCell t c) 0 ∅ 0 ∗ cred (tallyAt (rCell t c) () (Nt t)))
/-- after sending, -/
def Sent (c : Dev nD) (t : Fin 12) : sProp 𝕄 :=
  iprop(cred (tallyAt (sCell t c) () (Nt t)) ∗ atPos ER (sCell t c) 0 ∅ 0 ∗ atPos ER (rCell t c) 0 ∅ 0 ∗ cred (tallyAt (rCell t c) () (Nt t)))
/-- after receiving, -/
def Rcvd (c : Dev nD) (t : Fin 12) : sProp 𝕄 :=
  iprop(cred (tallyAt (sCell t c) () (Nt t)) ∗ atPos ER (sCell t c) 0 ∅ 0 ∗ semVal (rCell t c) 0)
/-- and at the end. -/
def Done (c : Dev nD) (t : Fin 12) : sProp 𝕄 := iprop(semVal (sCell t c) 0 ∗ semVal (rCell t c) 0)

/-- What is owed, whatever has been waited for. -/
def owesE (c : Dev nD) (O : CellTallies nD τ sig Unit) : sProp 𝕄 := iprop(∃ W, owes (c : Thread nD τ) O W)

variable {α : Type} {Ψ : α → sProp (MT nD τ sig Unit (Elt F) ℕ UU ℕ)} {k : PUnit → Prog (TpuEff nD τ sig (Elt F) Λ₀ .tc) α}

/-- An entry signal: it hands the partner this device's landing places and the marks of its receive semaphores. -/
theorem signal_bar (c n : Dev nD) (d : Fin 3) (hn : n = px (bm d) c) (O O' : CellTallies nD τ sig Unit)
    (hO : O = O' + tallyAt (barCell (px (bm d) c)) () 1) {sm : Sem sig} (hsm : sm = barS) {k' : ℕ} (hk : k' = 1) :
    iprop(invs w0 K c ∗ dutyTok ER (barCell (px (bm d) c)) 0 d ∗ owesE c O ∗ barPay (F := F) (px (bm d) c) d)
      ⊢ iprop((owesE c O' -∗ wp frame (wpE (defs₀ (F := F)) 𝒱₀ (c : Thread nD τ) none) Set.univ (k ⟨⟩) Ψ)
          -∗ wp frame (wpE (defs₀ (F := F)) 𝒱₀ (c : Thread nD τ) none) Set.univ (.op (.semSignal (Dev.tc n : Thread nD τ) sm k') k) Ψ) := by
  subst hn hsm hk
  unfold owesE
  iintro ⟨#HI, Ht, ⟨%W, HO⟩, Hp⟩ Hk
  ihave #Hn := (invs_nb w0 K c d) $$ HI
  icases Hn with ⟨#Hi, #Hr⟩
  iapply (Rounds.wp_signal 𝒱₀ ER (Rd w0) (c : Thread nD τ) none (dst := (px (bm d) c : Thread nD τ)) (κ := K (barCell (px (bm d) c)))
      (d := d) (by rw [duties_bar]; exact Finset.mem_univ _) (amount_bar w0 (px (bm d) c) d) () O' hO) $$ [HO Ht Hp]
  · isplitr; · iexact Hi
    isplitl [HO]; · iexact HO
    isplitl [Ht]; · iexact Ht
    isplitl [Hp]; · rw [payload_bar]; iexact Hp
    iexact Hr
  iintro HO
  iapply Hk
  iexists W; iexact HO

/-- The entry wait: the three partners' landing places and marks. -/
theorem wait_bar (c : Dev nD) {w : TpuEff nD τ sig (Elt F) Λ₀ .tc PUnit} {sm : SemLoc sig} {k' : ℕ}
    (hw : ∀ Kk : PUnit → sProp 𝕄, wpE (defs₀ (F := F)) 𝒱₀ (c : Thread nD τ) none Set.univ w Kk = waitSpec (c : Thread nD τ) Set.univ sm k' Kk)
    (hsm : sm = .reg barS) (hk : k' = 3) :
    iprop(invs w0 K c ∗ levAts L lv ∗ atPos ER (barCell c) 0 ∅ 0 ∗ cred (tallyAt (barCell c) () 3) ∗ owesE c (Ow c 0))
      ⊢ iprop(((owesE c (Ow c 0) ∗ semVal (barCell c) 0 ∗ barPay (F := F) c 0 ∗ barPay c 1 ∗ barPay c 2)
            -∗ wp frame (wpE (defs₀ (F := F)) 𝒱₀ (c : Thread nD τ) none) Set.univ (k ⟨⟩) Ψ)
          -∗ wp frame (wpE (defs₀ (F := F)) 𝒱₀ (c : Thread nD τ) none) Set.univ (.op w k) Ψ) := by
  subst hsm hk
  unfold owesE
  iintro ⟨#HI, #Hlev, Hat, Hc, ⟨%W, HO⟩⟩ Hk
  ihave #Hi := (invs_bar w0 K c) $$ HI
  iapply (Rounds.wp_wait_rest_token 𝒱₀ ER (Rd w0) (c : Thread nD τ) none (κ := K (barCell c)) hw (Set.mem_univ _) ()
      (O := Ow c 0) (W := W) (R := 0) (m := 0) (T := ∅) (by rw [expect_bar])) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hp := (Entails.of_eq (rest_bar w0 c)) $$ Hpay
  imod (Rounds.cell_close ER (Rd w0) (Set.mem_univ (K (barCell c))) (fun h => h) (R := 0 + 1) (duties_later w0 (barCell c))) $$ [Hat] with Hz
  · isplitr; · iexact Hi
    iexact Hat
  iapply Hk
  isplitl [HO]; · iexists _; iexact HO
  isplitl [Hz]; · iexact Hz
  iexact Hp

/-- A reduce send: the given-up rows into the partner's landing place; the source goes to the partner with the landed rows. -/
theorem send_R (j : Fin 2) (s : Fin 3) (c n : Dev nD) (hn : n = pt j s.val c)
    {M : Memref sig .tc .vmem ⟨2, ![1024, 512]⟩ .bf16} {M' : Memref sig .tc .vmem ⟨2, ![896, 512]⟩ .bf16} (hM : M = wM j) (hM' : M' = rM j)
    {m : ℕ} (hm : m = rows s.val) {off off' : Fin 2 → ℕ} (hoff : off = ![sent j s.val c, 0]) (hoff' : off' = ![roff s.val, 0])
    {inb : ∀ a, off a + (![m, 512] : Fin 2 → ℕ) a ≤ (⟨2, ![1024, 512]⟩ : Shape).size a}
    {inb' : ∀ a, off' a + (![m, 512] : Fin 2 → ℕ) a ≤ (⟨2, ![896, 512]⟩ : Shape).size a}
    {hu : ∀ a, (Rect.unit (s := ⟨2, ![1024, 512]⟩) off ![m, 512] inb).stride a = 1} {hu' : ∀ a, (Rect.unit (s := ⟨2, ![896, 512]⟩) off' ![m, 512] inb').stride a = 1}
    {s1 s2 : SemLoc sig} (h1 : s1 = sS (tR j s.val)) (h2 : s2 = rS (tR j s.val))
    {hsc : (M'.slice (Rect.unit (s := ⟨2, ![896, 512]⟩) off' ![m, 512] inb') hu' : Memref sig (Dev.tc n : Thread nD τ).2.kind .vmem _ .bf16).view.ref.isScScratch = false}
    {hsrc : (M.slice (Rect.unit (s := ⟨2, ![1024, 512]⟩) off ![m, 512] inb) hu).view.WordExact}
    {hdst : (M'.slice (Rect.unit (s := ⟨2, ![896, 512]⟩) off' ![m, 512] inb') hu').view.WordExact}
    {hsem : DmaTarget.Typed .vmem s2 (.remote (Dev.tc n : Thread nD τ) (M'.slice (Rect.unit (s := ⟨2, ![896, 512]⟩) off' ![m, 512] inb') hu') s1 hsc)}
    (O O' : CellTallies nD τ sig Unit) (hO : O = O' + tallyAt (rCell (tR j s.val) (pt j s.val c)) () (NR j s.val)) :
    iprop(invs w0 K c ∗ Init (F := F) c (tR j s.val) ∗ reached ER (rCell (tR j s.val) (pt j s.val c)) 0
        ∗ Slab w0 j s.val c ∗ Land j s.val c ∗ owesE c O)
      ⊢ iprop(((Sent (F := F) c (tR j s.val) ∗ owesE c O' ∗ Kept w0 j s.val c)
            -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma (M.slice (Rect.unit (s := ⟨2, ![1024, 512]⟩) off ![m, 512] inb) hu)
                (.remote (Dev.tc n : Thread nD τ) (M'.slice (Rect.unit (s := ⟨2, ![896, 512]⟩) off' ![m, 512] inb') hu') s1 hsc) s2 hsrc hdst hsem) k) Ψ) := by
  subst hn hM hM' hm h1 h2
  unfold owesE Init Slab Land
  iintro ⟨#HI, ⟨Hts, #Hrs, Htr, Has, Har, Hcr⟩, #Hrr, Hslab, Hland, ⟨%W, HO⟩⟩ Hk
  icases (split_RW j s c fullShare _) $$ Hslab with ⟨Hsl, Hkept⟩
  unfold RW RX
  icases Hsl with ⟨%fs, %hfs, Hsrc⟩
  icases Hland with ⟨%fd, Hdst⟩
  ihave #Ht := (invs_t w0 K c (tR j s.val)) $$ HI
  icases Ht with ⟨#His, #Hir, #Hip⟩
  rw [tp_R]
  have e1 : rset (wM j) (sent j s.val c) (rows s.val) = ((wM j).slice (Rect.unit (s := ⟨2, ![1024, 512]⟩) off ![rows s.val, 512] inb) hu).view.set := rset_slice (wM j) hoff inb
  have e2 : rset (rM j) (roff s.val) (rows s.val) = ((rM j).slice (Rect.unit (s := ⟨2, ![896, 512]⟩) off' ![rows s.val, 512] inb') hu').view.set := rset_slice (rM j) hoff' inb'
  have hpay : iprop((((rM j).slice (Rect.unit (s := ⟨2, ![896, 512]⟩) off' ![rows s.val, 512] inb') hu').view.loc (pt j s.val c : Thread nD τ)
          ↦[((rM j).slice (Rect.unit (s := ⟨2, ![896, 512]⟩) off' ![rows s.val, 512] inb') hu').view.set]{fullShare}
            (((rM j).slice (Rect.unit (s := ⟨2, ![896, 512]⟩) off' ![rows s.val, 512] inb') hu').view.write (Elt F) fd
              (((wM j).slice (Rect.unit (s := ⟨2, ![1024, 512]⟩) off ![rows s.val, 512] inb) hu).view.read (Elt F) fs) Finset.univ))
        ∗ (((wM j).slice (Rect.unit (s := ⟨2, ![1024, 512]⟩) off ![rows s.val, 512] inb) hu).view.loc (c : Thread nD τ)
          ↦[((wM j).slice (Rect.unit (s := ⟨2, ![1024, 512]⟩) off ![rows s.val, 512] inb) hu).view.set]{fullShare} fs))
      ⊢ (payR w0 j s.val (pt j s.val c) : sProp 𝕄) := by
    unfold payR RW RX
    rw [pt_pt, ← e1, ← e2]
    iintro ⟨Hd, Hs⟩
    isplitl [Hd]
    · iexists _; isplitr
      rotate_left
      · iexact Hd
      · ipureintro
        refine holds_write (rM j) hoff' inb' fd _ ?_
        refine (read_slice (wM j) hoff inb hfs).trans ?_
        funext i
        show wS w0 j s.val c (sent j s.val c + (i 0).val) (i 1) = landed w0 j s.val (pt j s.val c) (roff s.val + (i 0).val) (i 1)
        unfold landed
        rw [pt_pt, Nat.add_sub_cancel_left]
    · iexists fs; iexact Hs
  have hN : (sig.dmaCredit .tc (Kind.table .tc .vmem) (rM j).view.buf ⟨2, ![rows s.val, 512]⟩ .bf16) = NR j s.val := rfl
  have step := Rounds.wp_send_landing_pointsTo (defs := defs₀ (F := F)) 𝒱₀ ER (Rd w0) (c : Thread nD τ) none (κ₁ := K (sCell (tR j s.val) c)) (κ₂ := K (rCell (tR j s.val) (pt j s.val c)))
    (c' := (pt j s.val c : Thread nD τ))
    (src := (wM j).slice (Rect.unit (s := ⟨2, ![1024, 512]⟩) off ![rows s.val, 512] inb) hu)
    (dst := (rM j).slice (Rect.unit (s := ⟨2, ![896, 512]⟩) off' ![rows s.val, 512] inb') hu')
    (sS := sS (tR j s.val)) (sem := rS (tR j s.val)) (hsc := hsc) (hsrc := hsrc) (hdst := hdst) (hsem := hsem)
    (r₁ := 0) (r₂ := 0) (d₁ := 0) (d₂ := 0) (fd := fd) (fs := fs) (q := fullShare) (k := k) (Q := Ψ) (Es := Set.univ) (Γ := ∅)
    (by rw [duties_s]; exact Finset.mem_singleton_self _) (by rw [duties_r]; exact Finset.mem_singleton_self _)
    () () (NR j s.val) hN (by rw [amount_s, Nt_R]) (by rw [amount_r, Nt_R]) (O₀ := O) O' hO (W := W)
    (by rw [payload_s, sPay_R])
    (by rw [payload_r, rPay_R]; exact hpay)
  rw [e1, e2]
  iapply step $$ [Hsrc Hdst HO Hts Htr]
  · isplitr; · iexact His
    isplitr; · iexact Hip
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  iapply Hk
  isplitr [HO Hkept]
  · unfold Sent; rw [Nt_R]
    isplitl [Hcs]; · iexact Hcs
    isplitl [Has]; · iexact Has
    isplitl [Har]; · iexact Har
    iexact Hcr
  isplitl [HO]; · iexists W; iexact HO
  unfold Kept RW
  iexact Hkept

/-- A gather send: a share of the finished rows, into the same rows of the partner's working buffer. -/
theorem send_G (j : Fin 2) (s : Fin 3) (c n : Dev nD) (hn : n = pt j s.val c)
    {M : Memref sig .tc .vmem ⟨2, ![1024, 512]⟩ .bf16} (hM : M = wM j)
    {m : ℕ} (hm : m = rows s.val) {off : Fin 2 → ℕ} (hoff : off = ![klo j (s.val + 1) c, 0])
    {inb : ∀ a, off a + (![m, 512] : Fin 2 → ℕ) a ≤ (⟨2, ![1024, 512]⟩ : Shape).size a}
    {hu : ∀ a, (Rect.unit (s := ⟨2, ![1024, 512]⟩) off ![m, 512] inb).stride a = 1}
    {s1 s2 : SemLoc sig} (h1 : s1 = sS (tG j s.val)) (h2 : s2 = rS (tG j s.val))
    {hsc : (M.slice (Rect.unit (s := ⟨2, ![1024, 512]⟩) off ![m, 512] inb) hu : Memref sig (Dev.tc n : Thread nD τ).2.kind .vmem _ .bf16).view.ref.isScScratch = false}
    {hsrc : (M.slice (Rect.unit (s := ⟨2, ![1024, 512]⟩) off ![m, 512] inb) hu).view.WordExact}
    {hdst : (M.slice (Rect.unit (s := ⟨2, ![1024, 512]⟩) off ![m, 512] inb) hu).view.WordExact}
    {hsem : DmaTarget.Typed .vmem s2 (.remote (Dev.tc n : Thread nD τ) (M.slice (Rect.unit (s := ⟨2, ![1024, 512]⟩) off ![m, 512] inb) hu) s1 hsc)}
    (O O' : CellTallies nD τ sig Unit) (hO : O = O' + tallyAt (rCell (tG j s.val) (pt j s.val c)) () (NG j s.val)) :
    iprop(invs w0 K c ∗ Init (F := F) c (tG j s.val) ∗ reached ER (rCell (tG j s.val) (pt j s.val c)) 0
        ∗ Hold w0 j s.val c ∗ Dest j s.val c ∗ owesE c O)
      ⊢ iprop(((Sent (F := F) c (tG j s.val) ∗ owesE c O' ∗ HoldK w0 j s.val c)
            -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma (M.slice (Rect.unit (s := ⟨2, ![1024, 512]⟩) off ![m, 512] inb) hu)
                (.remote (Dev.tc n : Thread nD τ) (M.slice (Rect.unit (s := ⟨2, ![1024, 512]⟩) off ![m, 512] inb) hu) s1 hsc) s2 hsrc hdst hsem) k) Ψ) := by
  subst hn hM hm h1 h2
  unfold owesE Init Hold Dest HoldK
  rw [sent_pt, ← kq_right s]
  iintro ⟨#HI, ⟨Hts, #Hrs, Htr, Has, Har, Hcr⟩, #Hrr, Hhold, Hland, ⟨%W, HO⟩⟩ Hk
  icases (RW_share c (wM j) (fin w0 j)) $$ Hhold with ⟨Hsl, Hkept⟩
  rw [kq_left s]
  unfold RW RX
  icases Hsl with ⟨%fs, %hfs, Hsrc⟩
  icases Hland with ⟨%fd, Hdst⟩
  ihave #Ht := (invs_t w0 K c (tG j s.val)) $$ HI
  icases Ht with ⟨#His, #Hir, #Hip⟩
  rw [tp_G]
  have e1 : rset (wM j) (klo j (s.val + 1) c) (rows s.val) = ((wM j).slice (Rect.unit (s := ⟨2, ![1024, 512]⟩) off ![rows s.val, 512] inb) hu).view.set := rset_slice (wM j) hoff inb
  have hpay₁ : (((wM j).slice (Rect.unit (s := ⟨2, ![1024, 512]⟩) off ![rows s.val, 512] inb) hu).view.loc (c : Thread nD τ)
          ↦[((wM j).slice (Rect.unit (s := ⟨2, ![1024, 512]⟩) off ![rows s.val, 512] inb) hu).view.set]{lent s.val} fs)
      ⊢ (payS w0 j s.val c : sProp 𝕄) := by
    unfold payS RW
    rw [← e1]
    iintro Hs
    iexists fs; isplitr
    · ipureintro; exact hfs
    · iexact Hs
  have hpay₂ : (((wM j).slice (Rect.unit (s := ⟨2, ![1024, 512]⟩) off ![rows s.val, 512] inb) hu).view.loc (pt j s.val c : Thread nD τ)
          ↦[((wM j).slice (Rect.unit (s := ⟨2, ![1024, 512]⟩) off ![rows s.val, 512] inb) hu).view.set]{fullShare}
            (((wM j).slice (Rect.unit (s := ⟨2, ![1024, 512]⟩) off ![rows s.val, 512] inb) hu).view.write (Elt F) fd
              (((wM j).slice (Rect.unit (s := ⟨2, ![1024, 512]⟩) off ![rows s.val, 512] inb) hu).view.read (Elt F) fs) Finset.univ))
      ⊢ (payG w0 j s.val (pt j s.val c) : sProp 𝕄) := by
    unfold payG RW
    rw [sent_pt, ← e1]
    iintro Hd
    iexists _; isplitr
    rotate_left
    · iexact Hd
    · ipureintro
      exact holds_write (wM j) hoff inb fd _ (read_slice (wM j) hoff inb hfs)
  have hN : (sig.dmaCredit .tc (Kind.table .tc .vmem) (wM j).view.buf ⟨2, ![rows s.val, 512]⟩ .bf16) = NG j s.val := rfl
  have step := Rounds.wp_send_pointsTo (defs := defs₀ (F := F)) 𝒱₀ ER (Rd w0) (c : Thread nD τ) none (κ₁ := K (sCell (tG j s.val) c)) (κ₂ := K (rCell (tG j s.val) (pt j s.val c)))
    (c' := (pt j s.val c : Thread nD τ))
    (src := (wM j).slice (Rect.unit (s := ⟨2, ![1024, 512]⟩) off ![rows s.val, 512] inb) hu)
    (dst := (wM j).slice (Rect.unit (s := ⟨2, ![1024, 512]⟩) off ![rows s.val, 512] inb) hu)
    (sS := sS (tG j s.val)) (sem := rS (tG j s.val)) (hsc := hsc) (hsrc := hsrc) (hdst := hdst) (hsem := hsem)
    (r₁ := 0) (r₂ := 0) (d₁ := 0) (d₂ := 0) (fd := fd) (fs := fs) (q := lent s.val) (k := k) (Q := Ψ) (Es := Set.univ) (Γ := ∅)
    (by rw [duties_s]; exact Finset.mem_singleton_self _) (by rw [duties_r]; exact Finset.mem_singleton_self _)
    () () (NG j s.val) hN (by rw [amount_s, Nt_G]) (by rw [amount_r, Nt_G]) (O₀ := O) O' hO (W := W)
    (by rw [payload_s, sPay_G]; exact hpay₁)
    (by rw [payload_r, rPay_G]; exact hpay₂)
  rw [e1]
  iapply step $$ [Hsrc Hdst HO Hts Htr]
  · isplitr; · iexact His
    isplitr; · iexact Hip
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcs, HO⟩
  iapply Hk
  isplitr [HO Hkept]
  · unfold Sent; rw [Nt_G]
    isplitl [Hcs]; · iexact Hcs
    isplitl [Has]; · iexact Has
    isplitl [Har]; · iexact Har
    iexact Hcr
  isplitl [HO]; · iexists W; iexact HO
  iexact Hkept

/-- A receive wait: the payload, and the semaphore closed. -/
theorem wait_r (t : Fin 12) (c : Dev nD) (n : ℕ) (hn : n ≤ 12) (ht : t.val / 2 < n / 2) {w : TpuEff nD τ sig (Elt F) Λ₀ .tc PUnit} {sm : SemLoc sig} {k' : ℕ}
    (hw : ∀ Kk : PUnit → sProp 𝕄, wpE (defs₀ (F := F)) 𝒱₀ (c : Thread nD τ) none Set.univ w Kk = waitSpec (c : Thread nD τ) Set.univ sm k' Kk)
    (hsm : sm = rS t) (hk : k' = Nt t) :
    iprop(invs w0 K c ∗ levAts L lv ∗ Sent (F := F) c t ∗ owesE c (Ow c n))
      ⊢ iprop(((owesE c (Ow c n) ∗ Rcvd (F := F) c t ∗ rPay w0 t c)
            -∗ wp frame (wpE (defs₀ (F := F)) 𝒱₀ (c : Thread nD τ) none) Set.univ (k ⟨⟩) Ψ)
          -∗ wp frame (wpE (defs₀ (F := F)) 𝒱₀ (c : Thread nD τ) none) Set.univ (.op w k) Ψ) := by
  subst hsm hk
  unfold owesE Sent
  iintro ⟨#HI, #Hlev, ⟨Hcs, Has, Har, Hcr⟩, ⟨%W, HO⟩⟩ Hk
  ihave #Ht := (invs_t w0 K c t) $$ HI
  icases Ht with ⟨#His, #Hir, #Hip⟩
  iapply (Rounds.wp_wait_rest_token 𝒱₀ ER (Rd w0) (c : Thread nD τ) none (κ := K (rCell t c)) hw (Set.mem_univ _) ()
      (O := Ow c n) (W := W) (R := 0) (m := 0) (T := ∅) (by rw [Nat.zero_add, expect_r])) $$ [Hcr HO Har]
  · isplitr; · iexact Hir
    isplitl [Hcr]; · iexact Hcr
    isplitl [HO]; · iexact HO
    isplitr; · iapply (mayWait_r c t n hn ht); iexact Hlev
    iexact Har
  iintro ⟨HO, Hat, -, Hpay⟩
  ihave Hp := (Entails.of_eq (rest_r w0 c t)) $$ Hpay
  imod (Rounds.cell_close ER (Rd w0) (Set.mem_univ (K (rCell t c))) (fun h => h) (R := 0 + 1) (duties_later w0 (rCell t c))) $$ [Hat] with Hz
  · isplitr; · iexact Hir
    iexact Hat
  iapply Hk
  isplitl [HO]; · iexists _; iexact HO
  isplitr [Hp]
  · unfold Rcvd
    isplitl [Hcs]; · iexact Hcs
    isplitl [Has]; · iexact Has
    iexact Hz
  iexact Hp

/-- A send wait: what was lent, and the semaphore closed. -/
theorem wait_s (t : Fin 12) (c : Dev nD) {w : TpuEff nD τ sig (Elt F) Λ₀ .tc PUnit} {sm : SemLoc sig} {k' : ℕ}
    (hw : ∀ Kk : PUnit → sProp 𝕄, wpE (defs₀ (F := F)) 𝒱₀ (c : Thread nD τ) none Set.univ w Kk = waitSpec (c : Thread nD τ) Set.univ sm k' Kk)
    (hsm : sm = sS t) (hk : k' = Nt t) :
    iprop(invs w0 K c ∗ Rcvd (F := F) c t ∗ owesE c 0)
      ⊢ iprop(((owesE c 0 ∗ Done (F := F) c t ∗ sPay w0 t c)
            -∗ wp frame (wpE (defs₀ (F := F)) 𝒱₀ (c : Thread nD τ) none) Set.univ (k ⟨⟩) Ψ)
          -∗ wp frame (wpE (defs₀ (F := F)) 𝒱₀ (c : Thread nD τ) none) Set.univ (.op w k) Ψ) := by
  subst hsm hk
  unfold owesE Rcvd
  iintro ⟨#HI, ⟨Hcs, Has, Hzr⟩, ⟨%W, HO⟩⟩ Hk
  ihave #Ht := (invs_t w0 K c t) $$ HI
  icases Ht with ⟨#His, #Hir, #Hip⟩
  iapply (Rounds.wp_wait_rest_token 𝒱₀ ER (Rd w0) (c : Thread nD τ) none (κ := K (sCell t c)) hw (Set.mem_univ _) ()
      (O := 0) (W := W) (R := 0) (m := 0) (T := ∅) (by rw [Nat.zero_add, expect_s])) $$ [Hcs HO Has]
  · isplitr; · iexact His
    isplitl [Hcs]; · iexact Hcs
    isplitl [HO]; · iexact HO
    isplitr; · rw [MayWait_zero]; iempintro
    iexact Has
  iintro ⟨HO, Hat, -, Hpay⟩
  ihave Hp := (Entails.of_eq (rest_s w0 c t)) $$ Hpay
  imod (Rounds.cell_close ER (Rd w0) (Set.mem_univ (K (sCell t c))) (fun h => h) (R := 0 + 1) (duties_later w0 (sCell t c))) $$ [Hat] with Hz
  · isplitr; · iexact His
    iexact Hat
  iapply Hk
  isplitl [HO]; · iexists _; iexact HO
  isplitr [Hp]
  · unfold Done
    isplitl [Hz]; · iexact Hz
    iexact Hzr
  iexact Hp

/-- A reduce receive and the sum it is for: the wait, the three loads, the store. -/
theorem recv_R (j : Fin 2) (s : Fin 3) (c : Dev nD) (n : ℕ) (hn : n ≤ 12) (ht : (tR j s.val).val / 2 < n / 2)
    {w : TpuEff nD τ sig (Elt F) Λ₀ .tc PUnit} {sm : SemLoc sig} {k' : ℕ}
    (hw : ∀ Kk : PUnit → sProp 𝕄, wpE (defs₀ (F := F)) 𝒱₀ (c : Thread nD τ) none Set.univ w Kk = waitSpec (c : Thread nD τ) Set.univ sm k' Kk)
    (hsm : sm = rS (tR j s.val)) (hk : k' = NR j s.val)
    {M : Memref sig .tc .vmem ⟨2, ![1024, 512]⟩ .bf16} {M' : Memref sig .tc .vmem ⟨2, ![896, 512]⟩ .bf16} (hM : M = wM j) (hM' : M' = rM j)
    {m : ℕ} (hm : m = rows s.val) {off off' : Fin 2 → ℕ} (hoff : off = ![klo j (s.val + 1) c, 0]) (hoff' : off' = ![roff s.val, 0])
    {inb : ∀ a, off a + (![m, 512] : Fin 2 → ℕ) a ≤ (⟨2, ![1024, 512]⟩ : Shape).size a}
    {inb' : ∀ a, off' a + (![m, 512] : Fin 2 → ℕ) a ≤ (⟨2, ![896, 512]⟩ : Shape).size a}
    {hl₁ hl₂ : M.view.LoadsAt (Rect.unit (s := ⟨2, ![1024, 512]⟩) off ![m, 512] inb).toLoadRect}
    {hl' : M'.view.LoadsAt (Rect.unit (s := ⟨2, ![896, 512]⟩) off' ![m, 512] inb').toLoadRect}
    {pay : ((⟨2, ![m, 512]⟩ : Shape).Idx → Elt F .bf16) → ((⟨2, ![m, 512]⟩ : Shape).Idx → Elt F .bf16) → ((⟨2, ![m, 512]⟩ : Shape).Idx → Elt F .bf16)}
    (hpay : ∀ v v', pay v v' = fun i => comb (v i) (v' i))
    {hx : (M.access (Rect.unit (s := ⟨2, ![1024, 512]⟩) off ![m, 512] inb)).Stores Finset.univ}
    {hm' : (Finset.univ : Finset (Rect.unit (s := ⟨2, ![1024, 512]⟩) off ![m, 512] inb).shape.Idx) = Finset.univ
      ∨ ∀ a, (Rect.unit (s := ⟨2, ![1024, 512]⟩) off ![m, 512] inb).stride a = 1} :
    iprop(invs w0 K c ∗ levAts L lv ∗ Sent (F := F) c (tR j s.val) ∗ owesE c (Ow c n) ∗ Kept w0 j s.val c)
      ⊢ iprop(((owesE c (Ow c n) ∗ Rcvd (F := F) c (tR j s.val) ∗ Rb j s.val c ∗ Dest j s.val c ∗ Next w0 j s.val c)
            -∗ wp frame (wpE (defs₀ (F := F)) 𝒱₀ (c : Thread nD τ) none) Set.univ (k ⟨⟩) Ψ)
          -∗ wp frame (wpE (defs₀ (F := F)) 𝒱₀ (c : Thread nD τ) none) Set.univ
              (.op w fun _ => .op (.load M (Rect.unit (s := ⟨2, ![1024, 512]⟩) off ![m, 512] inb).toLoadRect hl₁) fun v =>
                .op (.load M' (Rect.unit (s := ⟨2, ![896, 512]⟩) off' ![m, 512] inb').toLoadRect hl') fun v' =>
                .op (.load M (Rect.unit (s := ⟨2, ![1024, 512]⟩) off ![m, 512] inb).toLoadRect hl₂) fun _ =>
                .op (.store M (Rect.unit (s := ⟨2, ![1024, 512]⟩) off ![m, 512] inb) (pay v v') Finset.univ hx hm') k) Ψ) := by
  subst hM hM' hm
  have ep : rPay w0 (tR j s.val) c = iprop(RW c (rM j) (roff s.val) (rows s.val) fullShare (landed w0 j s.val c)
      ∗ RX (pt j s.val c) (wM j) (sent j s.val (pt j s.val c)) (rows s.val) fullShare) := rPay_R w0 j s c
  unfold Kept
  iintro ⟨#HI, #Hlev, Hs, HO, Hkept⟩ Hk
  iapply (wait_r (F := F) w0 K (tR j s.val) c n hn ht hw hsm (hk.trans (Nt_R j s).symm)) $$ [Hs HO]
  · isplitr; · iexact HI
    isplitr; · iexact Hlev
    isplitl [Hs]; · iexact Hs
    iexact HO
  iintro ⟨HO, Hr, Hp⟩
  ihave Hp := (Entails.of_eq ep) $$ Hp
  icases Hp with ⟨Hrb, Hd⟩
  iapply (wp_loadR 𝒱₀ c none Set.univ hoff) $$ Hkept; iintro Hkept
  iapply (wp_loadR 𝒱₀ c none Set.univ hoff') $$ Hrb; iintro Hrb
  iapply (wp_loadR 𝒱₀ c none Set.univ hoff) $$ Hkept; iintro Hkept
  ihave Hx := (RW_forget c (wM j) _ _ _ _) $$ Hkept
  have hval : pay (vecOf (rows s.val) (wS w0 j s.val c) (klo j (s.val + 1) c)) (vecOf (rows s.val) (landed w0 j s.val c) (roff s.val))
      = vecOf (rows s.val) (wS w0 j (s.val + 1) c) (klo j (s.val + 1) c) := by
    rw [hpay]
    funext i
    show comb (wS w0 j s.val c (klo j (s.val + 1) c + (i 0).val) (i 1)) (landed w0 j s.val c (roff s.val + (i 0).val) (i 1))
      = comb (wS w0 j s.val c (klo j (s.val + 1) c + (i 0).val) (i 1)) (wS w0 j s.val (pt j s.val c) (klo j (s.val + 1) c + (i 0).val) (i 1))
    unfold landed
    rw [sent_pt, Nat.add_sub_cancel_left]
  iapply (wp_storeR 𝒱₀ c none Set.univ hoff hval) $$ Hx; iintro Hnext
  iapply Hk
  isplitl [HO]; · iexact HO
  isplitl [Hr]; · iexact Hr
  isplitl [Hrb]
  · unfold Rb
    iapply (RW_forget c (rM j) _ _ _ _); iexact Hrb
  isplitl [Hd]; · unfold Dest; iexact Hd
  unfold Next; iexact Hnext

end Steps

end Cert.KernelIdealProof
-- ==== Proof.KernelIdeal.Facts.lean ====
/-
The kernel's device and row arithmetic at a symbolic device: which partner each transfer addresses, and where each slice starts.
-/
module

public import proofs.«01_k».proof.Proof.KernelIdeal.Schedule

@[expose] public section

namespace Cert.KernelIdealProof

open Cert.KernelIdeal Cert.KernelIdeal.Gen
open Idealize.ShloMosaic

section
variable (c : Dev nD)

theorem dev1_eq : (⟨k0_dev1 c, k0_dev1_lt c⟩ : Dev nD) = px (bm 0) c := by revert c; decide
theorem dev2_eq : (⟨k0_dev2 c, k0_dev2_lt c⟩ : Dev nD) = px (bm 1) c := by revert c; decide
theorem dev3_eq : (⟨k0_dev3 c, k0_dev3_lt c⟩ : Dev nD) = px (bm 2) c := by revert c; decide
theorem dev4_eq : (⟨k0_dev4 c, k0_dev4_lt c⟩ : Dev nD) = pt 0 0 c := by revert c; decide
theorem dev5_eq : (⟨k0_dev5 c, k0_dev5_lt c⟩ : Dev nD) = pt 1 0 c := by revert c; decide
theorem dev6_eq : (⟨k0_dev6 c, k0_dev6_lt c⟩ : Dev nD) = pt 0 1 c := by revert c; decide
theorem dev7_eq : (⟨k0_dev7 c, k0_dev7_lt c⟩ : Dev nD) = pt 1 1 c := by revert c; decide
theorem dev8_eq : (⟨k0_dev8 c, k0_dev8_lt c⟩ : Dev nD) = pt 0 2 c := by revert c; decide
theorem dev9_eq : (⟨k0_dev9 c, k0_dev9_lt c⟩ : Dev nD) = pt 1 2 c := by revert c; decide
theorem dev10_eq : (⟨k0_dev10 c, k0_dev10_lt c⟩ : Dev nD) = pt 0 2 c := by revert c; decide
theorem dev11_eq : (⟨k0_dev11 c, k0_dev11_lt c⟩ : Dev nD) = pt 1 2 c := by revert c; decide
theorem dev12_eq : (⟨k0_dev12 c, k0_dev12_lt c⟩ : Dev nD) = pt 0 1 c := by revert c; decide
theorem dev13_eq : (⟨k0_dev13 c, k0_dev13_lt c⟩ : Dev nD) = pt 1 1 c := by revert c; decide
theorem dev14_eq : (⟨k0_dev14 c, k0_dev14_lt c⟩ : Dev nD) = pt 0 0 c := by revert c; decide
theorem dev15_eq : (⟨k0_dev15 c, k0_dev15_lt c⟩ : Dev nD) = pt 1 0 c := by revert c; decide

theorem off1A : k0_off1 c 4#32 = ![sent 0 0 c, 0] := by revert c; decide
theorem off1B : k0_off1 c 1#32 = ![sent 1 0 c, 0] := by revert c; decide
theorem off2A : k0_off2 c 4#32 = ![klo 0 1 c, 0] := by revert c; decide
theorem off2B : k0_off2 c 1#32 = ![klo 1 1 c, 0] := by revert c; decide
theorem off3A : k0_off3 c 4#32 = ![sent 0 1 c, 0] := by revert c; decide
theorem off3B : k0_off3 c 1#32 = ![sent 1 1 c, 0] := by revert c; decide
theorem off4A : k0_off4 c 4#32 = ![klo 0 2 c, 0] := by revert c; decide
theorem off4B : k0_off4 c 1#32 = ![klo 1 2 c, 0] := by revert c; decide
theorem off5A : k0_off5 c 4#32 1#32 0#32 128#32 = ![sent 0 2 c, 0] := by revert c; decide
theorem off5B : k0_off5 c 1#32 4#32 0#32 128#32 = ![sent 1 2 c, 0] := by revert c; decide
theorem off6A : k0_off6 c 4#32 1#32 = ![klo 0 3 c, 0] := by revert c; decide
theorem off6B : k0_off6 c 1#32 4#32 = ![klo 1 3 c, 0] := by revert c; decide
theorem off5A' : k0_off5 c 4#32 1#32 128#32 0#32 = ![klo 0 3 c, 0] := by revert c; decide
theorem off5B' : k0_off5 c 1#32 4#32 128#32 0#32 = ![klo 1 3 c, 0] := by revert c; decide
theorem off7A : k0_off7 c 4#32 1#32 1#32 = ![klo 0 2 c, 0] := by revert c; decide
theorem off7B : k0_off7 c 1#32 4#32 4#32 = ![klo 1 2 c, 0] := by revert c; decide
theorem off8A : k0_off8 c 4#32 1#32 1#32 = ![klo 0 1 c, 0] := by revert c; decide
theorem off8B : k0_off8 c 1#32 4#32 4#32 = ![klo 1 1 c, 0] := by revert c; decide
end

end Cert.KernelIdealProof
-- ==== Proof.KernelIdeal.Store.lean ====
/-
The result's two halves, stored side by side, as one function of the finished slabs.
-/
module

public import proofs.«01_k».proof.Proof.KernelIdeal.Schedule
public import Idealize.ShloMosaic.Lib.Pipeline.Value

@[expose] public section

noncomputable section

namespace Cert.KernelIdealProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev oM : Memref sig .tc .vmem S1x1024x1024 .f32 := Memref.whole cc0_stg8_0
abbrev r0 : Rect S1x1024x1024 := Rect.unit (s := S1x1024x1024) ![0, 0, 0] S1x1024x512.size inb_S1x1024x1024_S1x1024x512_0_0_0
abbrev r1 : Rect S1x1024x1024 := Rect.unit (s := S1x1024x1024) ![0, 0, 512] S1x1024x512.size inb_S1x1024x1024_S1x1024x512_0_0_512

variable (w0 : Fin 2 → Dev nD → ℕ → Fin 512 → Elt F .bf16)

/-- The result: the finished slabs side by side, widened. -/
def outC : S1x1024x1024.Idx → Elt F .f32 := fun i =>
  FloatOps.extf .f32 bitsLt_bf16_f32 (fin w0 (if (i 2).val < 512 then 0 else 1) (i 1).val ⟨(i 2).val % 512, Nat.mod_lt _ (by decide)⟩)

/-- The result's staging buffer holding it. -/
def outP (c : Dev nD) : sProp 𝕄 :=
  iprop(∃ f : Buf (Elt F) ((c : Thread nD τ).loc cc0_stg8_0), ⌜f = outC w0⌝ ∗ (((c : Thread nD τ).loc cc0_stg8_0) ↦{fullShare} f))

theorem emb_half (lo : ℕ) (hin : ∀ a, (![0, 0, lo] : Fin 3 → ℕ) a + S1x1024x512.size a ≤ S1x1024x1024.size a) (y : S1x1024x1024.Idx) (h1 : lo ≤ (y 2).val)
    (h2 : (y 2).val - lo < 512) :
    (Rect.unit (s := S1x1024x1024) ![0, 0, lo] S1x1024x512.size hin).emb
      ((fun a => match a with | ⟨0, _⟩ => y 0 | ⟨1, _⟩ => y 1 | ⟨2, _⟩ => ⟨(y 2).val - lo, h2⟩ : S1x1024x512.Idx)) = y := by
  funext a
  apply Fin.ext
  refine (Rect.emb_apply _ _ a).trans ?_
  match a with
  | ⟨0, _⟩ => show 0 + 1 * (y 0).val = (y 0).val; omega
  | ⟨1, _⟩ => show 0 + 1 * (y 1).val = (y 1).val; omega
  | ⟨2, _⟩ => show lo + 1 * ((y 2).val - lo) = (y 2).val; omega

/-- One half's payload, element by element. -/
theorem half_apply (G : ℕ → Fin 512 → Elt F .bf16) (x : S1x1024x512.Idx) :
    shapeCast S1x1024x512 (extf .f32 (vecOf 1024 G 0 : FVec F S1024x512 .bf16) bitsLt_bf16_f32) shapeCasts_S1024x512_S1x1024x512 x
      = FloatOps.extf .f32 bitsLt_bf16_f32 (G (x 1).val (x 2)) := by
  refine (shapeCast_addUnit_apply ![1024, 512] (extf .f32 (vecOf 1024 G 0 : FVec F S1024x512 .bf16) bitsLt_bf16_f32) shapeCasts_S1024x512_S1x1024x512 x).trans ?_
  show FloatOps.extf .f32 bitsLt_bf16_f32 (G (0 + (x 1).val) (x 2)) = _
  rw [Nat.zero_add]

theorem out_eq (f : S1x1024x1024.Idx → Elt F .f32) :
    ((oM.access r1 : View sig .tc _ _ _).write (Elt F)
      ((oM.access r0 : View sig .tc _ _ _).write (Elt F) f (k0_pay33 (vecOf 1024 (fin w0 0) 0)) Finset.univ)
      (k0_pay34 (vecOf 1024 (fin w0 1) 0)) Finset.univ) = outC w0 := by
  funext y
  have hy := (y 2).isLt
  change (y 2).val < 1024 at hy
  by_cases h : (y 2).val < 512
  · have hn : y ∉ (oM.access r1 : View sig .tc _ _ _).setOn Finset.univ := by
      have hs : (oM.access r1 : View sig .tc _ _ _).setOn Finset.univ = r1.set := View.set_slice_whole cc0_stg8_0 r1
      intro hm
      rw [hs] at hm
      have := (Rect.mem_set_unit.mp hm) 2
      change 512 ≤ (y 2).val ∧ _ at this
      omega
    rw [View.write_of_not_mem _ _ _ hn]
    have e := emb_half 0 inb_S1x1024x1024_S1x1024x512_0_0_0 y (Nat.zero_le _) h
    have hw := (oM.access r0 : View sig .tc _ _ _).write_emb_of_mem (Val := Elt F) f (k0_pay33 (vecOf 1024 (fin w0 0) 0))
      (Finset.mem_univ ((fun a => match a with | ⟨0, _⟩ => y 0 | ⟨1, _⟩ => y 1 | ⟨2, _⟩ => ⟨(y 2).val - 0, h⟩ : S1x1024x512.Idx)))
    refine (congrArg _ e.symm).trans (hw.trans ?_)
    refine (half_apply (fin w0 0) _).trans ?_
    unfold outC
    rw [if_pos h]
    congr 2
    apply Fin.ext
    show (y 2).val = (y 2).val % 512
    omega
  · have h' : (y 2).val - 512 < 512 := by omega
    have e := emb_half 512 inb_S1x1024x1024_S1x1024x512_0_0_512 y (by omega) h'
    have hw := (oM.access r1 : View sig .tc _ _ _).write_emb_of_mem (Val := Elt F) ((oM.access r0 : View sig .tc _ _ _).write (Elt F) f (k0_pay33 (vecOf 1024 (fin w0 0) 0)) Finset.univ) (k0_pay34 (vecOf 1024 (fin w0 1) 0))
      (Finset.mem_univ ((fun a => match a with | ⟨0, _⟩ => y 0 | ⟨1, _⟩ => y 1 | ⟨2, _⟩ => ⟨(y 2).val - 512, h'⟩ : S1x1024x512.Idx)))
    refine (congrArg _ e.symm).trans (hw.trans ?_)
    refine (half_apply (fin w0 1) _).trans ?_
    unfold outC
    rw [if_neg h]
    congr 2
    apply Fin.ext
    show (y 2).val - 512 = (y 2).val % 512
    omega

end Cert.KernelIdealProof
-- ==== Proof.KernelIdeal.Exchange.lean ====
/-
The exchange: the reduce half, the gather half, the result stored, the sends drained. One rule per effect, in program order, at a
symbolic device.
-/
module

public import proofs.«01_k».proof.Proof.KernelIdeal.Steps
public import proofs.«01_k».proof.Proof.KernelIdeal.Facts
public import proofs.«01_k».proof.Proof.KernelIdeal.Store

@[expose] public section

noncomputable section

namespace Cert.KernelIdealProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem Ow_R (c : Dev nD) (j : Fin 2) (s : Fin 3) :
    Ow c (tR j s.val).val = Ow c ((tR j s.val).val + 1) + tallyAt (rCell (tR j s.val) (pt j s.val c)) () (NR j s.val) := by
  have h := Ow_step c (tR j s.val)
  rwa [tp_R, Nt_R] at h
theorem Ow_G (c : Dev nD) (j : Fin 2) (s : Fin 3) :
    Ow c (tG j s.val).val = Ow c ((tG j s.val).val + 1) + tallyAt (rCell (tG j s.val) (pt j s.val c)) () (NG j s.val) := by
  have h := Ow_step c (tG j s.val)
  rwa [tp_G, Nt_G] at h

/-- What each reduce step stores, element by element. -/
theorem pay_comb {m : ℕ} (h : (⟨2, ![m, 512]⟩ : Shape).ShapeCasts ⟨2, ![m, 512]⟩) (v v' : (⟨2, ![m, 512]⟩ : Shape).Idx → Elt F .bf16) :
    shapeCast ⟨2, ![m, 512]⟩ (truncf .bf16 (addf (extf .f32 v bitsLt_bf16_f32) (extf .f32 v' bitsLt_bf16_f32)) bitsLt_bf16_f32) h
      = fun i => comb (v i) (v' i) := by
  rw [shapeCast_self]; rfl

/-- The kernel from the first reduce send on. -/
def rest (c : Dev nD) (v2 c4_i32_62 : BitVec 32) : Prog (TpuEff nD τ sig (Elt F) Λ₀ .tc) PUnit := do
  let ⟨v161, v167, v176, v182⟩ : Σ' (v161 : BitVec 32) (v167 : BitVec 32) (v176 : BitVec 32), BitVec 32 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 c4_i32_62
  let ⟨v220, v222⟩ : Σ' (v220 : FVec F S512x512 .bf16), Vec F S512x512 .bf16 ← k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v161 v167 v176 v182
  let ⟨v225, v231, v240, v246⟩ : Σ' (v225 : BitVec 32) (v231 : BitVec 32) (v240 : BitVec 32), BitVec 32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v167 v182 v220 v222
  let ⟨v284, v286⟩ : Σ' (v284 : FVec F S256x512 .bf16), Vec F S256x512 .bf16 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v225 v231 v240 v246
  let ⟨v289, v295, v304, v310⟩ : Σ' (v289 : BitVec 32) (v295 : BitVec 32) (v304 : BitVec 32), BitVec 32 ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v231 v246 v284 v286
  let ⟨v348, v350⟩ : Σ' (v348 : FVec F S128x512 .bf16), Vec F S128x512 .bf16 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v289 v295 v304 v310
  let ⟨v362, v380⟩ : Σ' (v362 : BitVec 32), BitVec 32 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v295 v348 v350
  let ⟨v390, v400⟩ : Σ' (v390 : BitVec 32), BitVec 32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v310 v362
  let ⟨v429, v438⟩ : Σ' (v429 : BitVec 32), BitVec 32 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v380 v390 v400
  k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v429 v438
  k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c
  k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c
  let v516 : Memref sig .tc .vmem S512x512 .bf16 := (Memref.whole cc0_scratch1 : Memref sig .tc .vmem S1024x512 .bf16).slice (Rect.unit (s := S1024x512) (k0_off8 c 1#32 4#32 4#32) S512x512.size (k0_off8_inb c 1)) (fun _ => rfl)
  let v513 : DmaSems sig S1 := cc0_scratch4.slice (Rect.unit (s := S12) ![11] S1.size inb_S12_S1_11)
  let v514 : DmaSems sig S_ := v513.squeeze S_ squeezes_S1_S_
  let v515 : Memref sig .tc .vmem S512x512 .bf16 := (Memref.whole cc0_scratch1 : Memref sig .tc .vmem S1024x512 .bf16).slice (Rect.unit (s := S1024x512) (k0_off8 c 1#32 4#32 4#32) S512x512.size (k0_off8_inb c 1)) (fun _ => rfl)
  Prog.lift (.waitDma2 v514.sem v516 v515 ((Memref.isWhole_whole cc0_scratch1).wordExact_slice rfl _ (k0_off8_wordsbf16 c 1)) ((Memref.isWhole_whole cc0_scratch1).wordExact_slice rfl _ (k0_off8_wordsbf16 c 1)))
  pure ⟨⟩

/-- The transfers' tokens before and after. -/
def Inits (c : Dev nD) : sProp 𝕄 := iprop(Init (F := F) c 0 ∗ Init (F := F) c 1 ∗ Init (F := F) c 2 ∗ Init (F := F) c 3 ∗ Init (F := F) c 4 ∗ Init (F := F) c 5 ∗ Init (F := F) c 6 ∗ Init (F := F) c 7 ∗ Init (F := F) c 8 ∗ Init (F := F) c 9 ∗ Init (F := F) c 10 ∗ Init (F := F) c 11)
def Dones (c : Dev nD) : sProp 𝕄 := iprop(Done (F := F) c 0 ∗ Done (F := F) c 1 ∗ Done (F := F) c 2 ∗ Done (F := F) c 3 ∗ Done (F := F) c 4 ∗ Done (F := F) c 5 ∗ Done (F := F) c 6 ∗ Done (F := F) c 7 ∗ Done (F := F) c 8 ∗ Done (F := F) c 9 ∗ Done (F := F) c 10 ∗ Done (F := F) c 11)
/-- The partners' receive semaphores are at their first round. -/
def Marks (c : Dev nD) : sProp 𝕄 := iprop(reached ER (rCell 0 (tp 0 c)) 0 ∗ reached ER (rCell 1 (tp 1 c)) 0 ∗ reached ER (rCell 2 (tp 2 c)) 0 ∗ reached ER (rCell 3 (tp 3 c)) 0 ∗ reached ER (rCell 4 (tp 4 c)) 0 ∗ reached ER (rCell 5 (tp 5 c)) 0 ∗ reached ER (rCell 6 (tp 6 c)) 0 ∗ reached ER (rCell 7 (tp 7 c)) 0 ∗ reached ER (rCell 8 (tp 8 c)) 0 ∗ reached ER (rCell 9 (tp 9 c)) 0 ∗ reached ER (rCell 10 (tp 10 c)) 0 ∗ reached ER (rCell 11 (tp 11 c)) 0)

instance Marks_persistent (c : Dev nD) : BI.Persistent (Marks (F := F) c) := by unfold Marks; infer_instance

omit [FloatOps F] in
/-- What the entry wait gives. -/
theorem barPays (c : Dev nD) : iprop(barPay (F := F) c 0 ∗ barPay c 1 ∗ barPay c 2)
    ⊢ iprop(Marks c ∗ Land (F := F) 0 0 c ∗ Land 0 1 c ∗ Land 0 2 c ∗ Land 1 0 c ∗ Land 1 1 c ∗ Land 1 2 c) := by
  show iprop((Land (F := F) 0 0 c ∗ Land 1 2 c ∗ reached ER (rCell 0 (tp 0 c)) 0 ∗ reached ER (rCell 5 (tp 5 c)) 0
        ∗ reached ER (rCell 10 (tp 10 c)) 0 ∗ reached ER (rCell 7 (tp 7 c)) 0)
      ∗ (Land 0 1 c ∗ Land 1 1 c ∗ reached ER (rCell 2 (tp 2 c)) 0 ∗ reached ER (rCell 3 (tp 3 c)) 0
        ∗ reached ER (rCell 8 (tp 8 c)) 0 ∗ reached ER (rCell 9 (tp 9 c)) 0)
      ∗ (Land 0 2 c ∗ Land 1 0 c ∗ reached ER (rCell 4 (tp 4 c)) 0 ∗ reached ER (rCell 1 (tp 1 c)) 0
        ∗ reached ER (rCell 6 (tp 6 c)) 0 ∗ reached ER (rCell 11 (tp 11 c)) 0)) ⊢ _
  unfold Marks
  iintro ⟨⟨X00, X12, #M00, #M12, #G00, #G12⟩, ⟨X01, X11, #M01, #M11, #G01, #G11⟩, ⟨X02, X10, #M02, #M10, #G02, #G10⟩⟩
  isplitr
  · isplitr; · iexact M00
    isplitr; · iexact M10
    isplitr; · iexact M01
    isplitr; · iexact M11
    isplitr; · iexact M02
    isplitr; · iexact M12
    isplitr; · iexact G02
    isplitr; · iexact G12
    isplitr; · iexact G01
    isplitr; · iexact G11
    isplitr; · iexact G00
    iexact G10
  isplitl [X00]; · iexact X00
  isplitl [X01]; · iexact X01
  isplitl [X02]; · iexact X02
  isplitl [X10]; · iexact X10
  isplitl [X11]; · iexact X11
  iexact X12

variable (w0 : Fin 2 → Dev nD → ℕ → Fin 512 → Elt F .bf16) (K : GSem nD τ sig → ℕ)

/-- What the exchange leaves. -/
def After (c : Dev nD) : sProp 𝕄 :=
  iprop(owesE c 0 ∗ Dones (F := F) c ∗ (RX c (wM 0) 0 1024 fullShare ∗ RX c (wM 1) 0 1024 fullShare)
    ∗ (RX c (rM 0) 0 896 fullShare ∗ RX c (rM 1) 0 896 fullShare) ∗ outP w0 c)

set_option maxHeartbeats 4000000 in
theorem exchange (c : Dev nD) (v2 c4 : BitVec 32) (Kt : PUnit → sProp (MT nD τ sig Unit (Elt F) ℕ UU ℕ)) :
    iprop(invs w0 K c ∗ levAts L lv ∗ Inits (F := F) c ∗ (barPay c 0 ∗ barPay c 1 ∗ barPay c 2) ∗ owesE c (Ow c 0)
        ∗ (Slab w0 0 0 c ∗ Slab w0 1 0 c) ∗ (∃ f : Buf (Elt F) ((c : Thread nD τ).loc cc0_stg8_0), ((c : Thread nD τ).loc cc0_stg8_0) ↦{fullShare} f)
        ∗ (After w0 c -∗ Kt ⟨⟩))
      ⊢ wp frame (wpE (defs₀ (F := F)) 𝒱₀ (c : Thread nD τ) none) Set.univ (rest c v2 c4) Kt := by
  unfold rest
  simp only [k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton]
  unfold k0_part5_skel k0_part6_skel k0_part7_skel k0_part8_skel k0_part9_skel k0_part10_skel k0_part11_skel k0_part12_skel k0_part13_skel
    k0_part14_skel k0_part15_skel k0_part16_skel
  simp only [Prog.lift, Prog.bind_op, Prog.bind_ret, Prog.pure_eq_ret]
  unfold Inits
  iintro ⟨#HI, #Hlev, ⟨I0, I1, I2, I3, I4, I5, I6, I7, I8, I9, I10, I11⟩, Hb, HO, ⟨S0, S1⟩, Hout, Hk⟩
  icases (barPays c) $$ Hb with ⟨#HM, L00, L01, L02, L10, L11, L12⟩
  ihave #HM' := (show Marks (F := F) c ⊢ iprop(reached ER (rCell 0 (tp 0 c)) 0 ∗ reached ER (rCell 1 (tp 1 c)) 0 ∗ reached ER (rCell 2 (tp 2 c)) 0 ∗ reached ER (rCell 3 (tp 3 c)) 0 ∗ reached ER (rCell 4 (tp 4 c)) 0 ∗ reached ER (rCell 5 (tp 5 c)) 0 ∗ reached ER (rCell 6 (tp 6 c)) 0 ∗ reached ER (rCell 7 (tp 7 c)) 0 ∗ reached ER (rCell 8 (tp 8 c)) 0 ∗ reached ER (rCell 9 (tp 9 c)) 0 ∗ reached ER (rCell 10 (tp 10 c)) 0 ∗ reached ER (rCell 11 (tp 11 c)) 0) from BI.Entails.refl _) $$ HM
  icases HM' with ⟨#M0, #M1, #M2, #M3, #M4, #M5, #M6, #M7, #M8, #M9, #M10, #M11⟩
  iapply (send_R w0 K 0 0 c _ (dev4_eq c) (M := (Memref.whole cc0_scratch0)) (M' := (Memref.whole cc0_scratch2)) rfl rfl (m := 512) rfl (off1A c) (off' := ![0, 0]) rfl rfl rfl
      (Ow c 0) (Ow c 1) (Ow_R c 0 0)) $$ [I0 S0 L00 HO]
  · isplitr; · iexact HI
    isplitl [I0]; · iexact I0
    isplitr; · iexact M0
    isplitl [S0]; · iexact S0
    isplitl [L00]; · iexact L00
    iexact HO
  iintro ⟨T0, HO, S0⟩
  iapply (send_R w0 K 1 0 c _ (dev5_eq c) (M := (Memref.whole cc0_scratch1)) (M' := (Memref.whole cc0_scratch3)) rfl rfl (m := 512) rfl (off1B c) (off' := ![0, 0]) rfl rfl rfl
      (Ow c 1) (Ow c 2) (Ow_R c 1 0)) $$ [I1 S1 L10 HO]
  · isplitr; · iexact HI
    isplitl [I1]; · iexact I1
    isplitr; · iexact M1
    isplitl [S1]; · iexact S1
    isplitl [L10]; · iexact L10
    iexact HO
  iintro ⟨T1, HO, S1⟩
  iapply (recv_R w0 K 0 0 c 2 (by decide) (by decide) (wpE_waitDma2_eq 𝒱₀ (c : Thread nD τ) none Set.univ) rfl rfl
      (M := (Memref.whole cc0_scratch0)) (M' := (Memref.whole cc0_scratch2)) rfl rfl (m := 512) rfl (off2A c) (off' := ![0, 0]) rfl (fun v v' => pay_comb _ v v')) $$ [T0 HO S0]
  · isplitr; · iexact HI
    isplitr; · iexact Hlev
    isplitl [T0]; · iexact T0
    isplitl [HO]; · iexact HO
    iexact S0
  iintro ⟨HO, T0, R00, D00, S0⟩
  ihave S0 := (show Next w0 0 ((0 : Fin 3).val) c ⊢ Slab w0 0 ((1 : Fin 3).val) c from slab_next w0 0 c 0 rfl) $$ S0
  iapply (recv_R w0 K 1 0 c 2 (by decide) (by decide) (wpE_waitDma2_eq 𝒱₀ (c : Thread nD τ) none Set.univ) rfl rfl
      (M := (Memref.whole cc0_scratch1)) (M' := (Memref.whole cc0_scratch3)) rfl rfl (m := 512) rfl (off2B c) (off' := ![0, 0]) rfl (fun v v' => pay_comb _ v v')) $$ [T1 HO S1]
  · isplitr; · iexact HI
    isplitr; · iexact Hlev
    isplitl [T1]; · iexact T1
    isplitl [HO]; · iexact HO
    iexact S1
  iintro ⟨HO, T1, R10, D10, S1⟩
  ihave S1 := (show Next w0 1 ((0 : Fin 3).val) c ⊢ Slab w0 1 ((1 : Fin 3).val) c from slab_next w0 1 c 0 rfl) $$ S1
  iapply (send_R w0 K 0 1 c _ (dev6_eq c) (M := (Memref.whole cc0_scratch0)) (M' := (Memref.whole cc0_scratch2)) rfl rfl (m := 256) rfl (off3A c) (off' := ![512, 0]) rfl rfl rfl
      (Ow c 2) (Ow c 3) (Ow_R c 0 1)) $$ [I2 S0 L01 HO]
  · isplitr; · iexact HI
    isplitl [I2]; · iexact I2
    isplitr; · iexact M2
    isplitl [S0]; · iexact S0
    isplitl [L01]; · iexact L01
    iexact HO
  iintro ⟨T2, HO, S0⟩
  iapply (send_R w0 K 1 1 c _ (dev7_eq c) (M := (Memref.whole cc0_scratch1)) (M' := (Memref.whole cc0_scratch3)) rfl rfl (m := 256) rfl (off3B c) (off' := ![512, 0]) rfl rfl rfl
      (Ow c 3) (Ow c 4) (Ow_R c 1 1)) $$ [I3 S1 L11 HO]
  · isplitr; · iexact HI
    isplitl [I3]; · iexact I3
    isplitr; · iexact M3
    isplitl [S1]; · iexact S1
    isplitl [L11]; · iexact L11
    iexact HO
  iintro ⟨T3, HO, S1⟩
  iapply (recv_R w0 K 0 1 c 4 (by decide) (by decide) (wpE_waitDma2_eq 𝒱₀ (c : Thread nD τ) none Set.univ) rfl rfl
      (M := (Memref.whole cc0_scratch0)) (M' := (Memref.whole cc0_scratch2)) rfl rfl (m := 256) rfl (off4A c) (off' := ![512, 0]) rfl (fun v v' => pay_comb _ v v')) $$ [T2 HO S0]
  · isplitr; · iexact HI
    isplitr; · iexact Hlev
    isplitl [T2]; · iexact T2
    isplitl [HO]; · iexact HO
    iexact S0
  iintro ⟨HO, T2, R01, D01, S0⟩
  ihave S0 := (show Next w0 0 ((1 : Fin 3).val) c ⊢ Slab w0 0 ((2 : Fin 3).val) c from slab_next w0 0 c 1 rfl) $$ S0
  iapply (recv_R w0 K 1 1 c 4 (by decide) (by decide) (wpE_waitDma2_eq 𝒱₀ (c : Thread nD τ) none Set.univ) rfl rfl
      (M := (Memref.whole cc0_scratch1)) (M' := (Memref.whole cc0_scratch3)) rfl rfl (m := 256) rfl (off4B c) (off' := ![512, 0]) rfl (fun v v' => pay_comb _ v v')) $$ [T3 HO S1]
  · isplitr; · iexact HI
    isplitr; · iexact Hlev
    isplitl [T3]; · iexact T3
    isplitl [HO]; · iexact HO
    iexact S1
  iintro ⟨HO, T3, R11, D11, S1⟩
  ihave S1 := (show Next w0 1 ((1 : Fin 3).val) c ⊢ Slab w0 1 ((2 : Fin 3).val) c from slab_next w0 1 c 1 rfl) $$ S1
  iapply (send_R w0 K 0 2 c _ (dev8_eq c) (M := (Memref.whole cc0_scratch0)) (M' := (Memref.whole cc0_scratch2)) rfl rfl (m := 128) rfl (off5A c) (off' := ![768, 0]) rfl rfl rfl
      (Ow c 4) (Ow c 5) (Ow_R c 0 2)) $$ [I4 S0 L02 HO]
  · isplitr; · iexact HI
    isplitl [I4]; · iexact I4
    isplitr; · iexact M4
    isplitl [S0]; · iexact S0
    isplitl [L02]; · iexact L02
    iexact HO
  iintro ⟨T4, HO, S0⟩
  iapply (send_R w0 K 1 2 c _ (dev9_eq c) (M := (Memref.whole cc0_scratch1)) (M' := (Memref.whole cc0_scratch3)) rfl rfl (m := 128) rfl (off5B c) (off' := ![768, 0]) rfl rfl rfl
      (Ow c 5) (Ow c 6) (Ow_R c 1 2)) $$ [I5 S1 L12 HO]
  · isplitr; · iexact HI
    isplitl [I5]; · iexact I5
    isplitr; · iexact M5
    isplitl [S1]; · iexact S1
    isplitl [L12]; · iexact L12
    iexact HO
  iintro ⟨T5, HO, S1⟩
  iapply (recv_R w0 K 0 2 c 6 (by decide) (by decide) (wpE_waitDma2_eq 𝒱₀ (c : Thread nD τ) none Set.univ) rfl rfl
      (M := (Memref.whole cc0_scratch0)) (M' := (Memref.whole cc0_scratch2)) rfl rfl (m := 128) rfl (off6A c) (off' := ![768, 0]) rfl (fun v v' => pay_comb _ v v')) $$ [T4 HO S0]
  · isplitr; · iexact HI
    isplitr; · iexact Hlev
    isplitl [T4]; · iexact T4
    isplitl [HO]; · iexact HO
    iexact S0
  iintro ⟨HO, T4, R02, D02, S0⟩
  ihave S0 := (show Next w0 0 ((2 : Fin 3).val) c ⊢ Hold w0 0 ((2 : Fin 3).val) c from hold_next w0 0 c) $$ S0
  iapply (recv_R w0 K 1 2 c 6 (by decide) (by decide) (wpE_waitDma2_eq 𝒱₀ (c : Thread nD τ) none Set.univ) rfl rfl
      (M := (Memref.whole cc0_scratch1)) (M' := (Memref.whole cc0_scratch3)) rfl rfl (m := 128) rfl (off6B c) (off' := ![768, 0]) rfl (fun v v' => pay_comb _ v v')) $$ [T5 HO S1]
  · isplitr; · iexact HI
    isplitr; · iexact Hlev
    isplitl [T5]; · iexact T5
    isplitl [HO]; · iexact HO
    iexact S1
  iintro ⟨HO, T5, R12, D12, S1⟩
  ihave S1 := (show Next w0 1 ((2 : Fin 3).val) c ⊢ Hold w0 1 ((2 : Fin 3).val) c from hold_next w0 1 c) $$ S1
  iapply (send_G w0 K 0 2 c _ (dev10_eq c) (M := (Memref.whole cc0_scratch0)) rfl (m := 128) rfl (off5A' c) rfl rfl
      (Ow c 6) (Ow c 7) (Ow_G c 0 2)) $$ [I6 S0 D02 HO]
  · isplitr; · iexact HI
    isplitl [I6]; · iexact I6
    isplitr; · iexact M6
    isplitl [S0]; · iexact S0
    isplitl [D02]; · iexact D02
    iexact HO
  iintro ⟨T6, HO, S0⟩
  iapply (send_G w0 K 1 2 c _ (dev11_eq c) (M := (Memref.whole cc0_scratch1)) rfl (m := 128) rfl (off5B' c) rfl rfl
      (Ow c 7) (Ow c 8) (Ow_G c 1 2)) $$ [I7 S1 D12 HO]
  · isplitr; · iexact HI
    isplitl [I7]; · iexact I7
    isplitr; · iexact M7
    isplitl [S1]; · iexact S1
    isplitl [D12]; · iexact D12
    iexact HO
  iintro ⟨T7, HO, S1⟩
  iapply (wait_r w0 K 6 c 8 (by decide) (by decide) (wpE_waitDma2_eq 𝒱₀ (c : Thread nD τ) none Set.univ) rfl rfl) $$ [T6 HO]
  · isplitr; · iexact HI
    isplitr; · iexact Hlev
    isplitl [T6]; · iexact T6
    iexact HO
  iintro ⟨HO, T6, P⟩
  ihave P := (show rPay w0 6 c ⊢ payG w0 0 ((2 : Fin 3).val) c from Entails.of_eq (rPay_G w0 0 2 c)) $$ P
  ihave PS := (show iprop(payG w0 0 ((2 : Fin 3).val) c ∗ HoldK w0 0 ((2 : Fin 3).val) c) ⊢ iprop(Aside2 w0 0 c ∗ Hold w0 0 ((1 : Fin 3).val) c) from recv2 w0 0 c) $$ [P S0]
  · isplitl [P]; · iexact P
    iexact S0
  icases PS with ⟨A02, S0⟩
  iapply (wait_r w0 K 7 c 8 (by decide) (by decide) (wpE_waitDma2_eq 𝒱₀ (c : Thread nD τ) none Set.univ) rfl rfl) $$ [T7 HO]
  · isplitr; · iexact HI
    isplitr; · iexact Hlev
    isplitl [T7]; · iexact T7
    iexact HO
  iintro ⟨HO, T7, P⟩
  ihave P := (show rPay w0 7 c ⊢ payG w0 1 ((2 : Fin 3).val) c from Entails.of_eq (rPay_G w0 1 2 c)) $$ P
  ihave PS := (show iprop(payG w0 1 ((2 : Fin 3).val) c ∗ HoldK w0 1 ((2 : Fin 3).val) c) ⊢ iprop(Aside2 w0 1 c ∗ Hold w0 1 ((1 : Fin 3).val) c) from recv2 w0 1 c) $$ [P S1]
  · isplitl [P]; · iexact P
    iexact S1
  icases PS with ⟨A12, S1⟩
  iapply (send_G w0 K 0 1 c _ (dev12_eq c) (M := (Memref.whole cc0_scratch0)) rfl (m := 256) rfl (off7A c) rfl rfl
      (Ow c 8) (Ow c 9) (Ow_G c 0 1)) $$ [I8 S0 D01 HO]
  · isplitr; · iexact HI
    isplitl [I8]; · iexact I8
    isplitr; · iexact M8
    isplitl [S0]; · iexact S0
    isplitl [D01]; · iexact D01
    iexact HO
  iintro ⟨T8, HO, S0⟩
  iapply (send_G w0 K 1 1 c _ (dev13_eq c) (M := (Memref.whole cc0_scratch1)) rfl (m := 256) rfl (off7B c) rfl rfl
      (Ow c 9) (Ow c 10) (Ow_G c 1 1)) $$ [I9 S1 D11 HO]
  · isplitr; · iexact HI
    isplitl [I9]; · iexact I9
    isplitr; · iexact M9
    isplitl [S1]; · iexact S1
    isplitl [D11]; · iexact D11
    iexact HO
  iintro ⟨T9, HO, S1⟩
  iapply (wait_r w0 K 8 c 10 (by decide) (by decide) (wpE_waitDma2_eq 𝒱₀ (c : Thread nD τ) none Set.univ) rfl rfl) $$ [T8 HO]
  · isplitr; · iexact HI
    isplitr; · iexact Hlev
    isplitl [T8]; · iexact T8
    iexact HO
  iintro ⟨HO, T8, P⟩
  ihave P := (show rPay w0 8 c ⊢ payG w0 0 ((1 : Fin 3).val) c from Entails.of_eq (rPay_G w0 0 1 c)) $$ P
  ihave PS := (show iprop(payG w0 0 ((1 : Fin 3).val) c ∗ HoldK w0 0 ((1 : Fin 3).val) c) ⊢ iprop(Aside1 w0 0 c ∗ Hold w0 0 ((0 : Fin 3).val) c) from recv1 w0 0 c) $$ [P S0]
  · isplitl [P]; · iexact P
    iexact S0
  icases PS with ⟨A01, S0⟩
  iapply (wait_r w0 K 9 c 10 (by decide) (by decide) (wpE_waitDma2_eq 𝒱₀ (c : Thread nD τ) none Set.univ) rfl rfl) $$ [T9 HO]
  · isplitr; · iexact HI
    isplitr; · iexact Hlev
    isplitl [T9]; · iexact T9
    iexact HO
  iintro ⟨HO, T9, P⟩
  ihave P := (show rPay w0 9 c ⊢ payG w0 1 ((1 : Fin 3).val) c from Entails.of_eq (rPay_G w0 1 1 c)) $$ P
  ihave PS := (show iprop(payG w0 1 ((1 : Fin 3).val) c ∗ HoldK w0 1 ((1 : Fin 3).val) c) ⊢ iprop(Aside1 w0 1 c ∗ Hold w0 1 ((0 : Fin 3).val) c) from recv1 w0 1 c) $$ [P S1]
  · isplitl [P]; · iexact P
    iexact S1
  icases PS with ⟨A11, S1⟩
  iapply (send_G w0 K 0 0 c _ (dev14_eq c) (M := (Memref.whole cc0_scratch0)) rfl (m := 512) rfl (off8A c) rfl rfl
      (Ow c 10) (Ow c 11) (Ow_G c 0 0)) $$ [I10 S0 D00 HO]
  · isplitr; · iexact HI
    isplitl [I10]; · iexact I10
    isplitr; · iexact M10
    isplitl [S0]; · iexact S0
    isplitl [D00]; · iexact D00
    iexact HO
  iintro ⟨T10, HO, S0⟩
  iapply (send_G w0 K 1 0 c _ (dev15_eq c) (M := (Memref.whole cc0_scratch1)) rfl (m := 512) rfl (off8B c) rfl rfl
      (Ow c 11) (Ow c 12) (Ow_G c 1 0)) $$ [I11 S1 D10 HO]
  · isplitr; · iexact HI
    isplitl [I11]; · iexact I11
    isplitr; · iexact M11
    isplitl [S1]; · iexact S1
    isplitl [D10]; · iexact D10
    iexact HO
  iintro ⟨T11, HO, S1⟩
  iapply (wait_r w0 K 10 c 12 (by decide) (by decide) (wpE_waitDma2_eq 𝒱₀ (c : Thread nD τ) none Set.univ) rfl rfl) $$ [T10 HO]
  · isplitr; · iexact HI
    isplitr; · iexact Hlev
    isplitl [T10]; · iexact T10
    iexact HO
  iintro ⟨HO, T10, P⟩
  ihave P := (show rPay w0 10 c ⊢ payG w0 0 ((0 : Fin 3).val) c from Entails.of_eq (rPay_G w0 0 0 c)) $$ P
  ihave PS := (show iprop(payG w0 0 ((0 : Fin 3).val) c ∗ HoldK w0 0 ((0 : Fin 3).val) c) ⊢ iprop(Aside0 w0 0 c ∗ RW c (wM 0) 0 1024 (kq 0) (fin w0 0)) from recv0 w0 0 c) $$ [P S0]
  · isplitl [P]; · iexact P
    iexact S0
  icases PS with ⟨A00, S0⟩
  iapply (wait_r w0 K 11 c 12 (by decide) (by decide) (wpE_waitDma2_eq 𝒱₀ (c : Thread nD τ) none Set.univ) rfl rfl) $$ [T11 HO]
  · isplitr; · iexact HI
    isplitr; · iexact Hlev
    isplitl [T11]; · iexact T11
    iexact HO
  iintro ⟨HO, T11, P⟩
  ihave P := (show rPay w0 11 c ⊢ payG w0 1 ((0 : Fin 3).val) c from Entails.of_eq (rPay_G w0 1 0 c)) $$ P
  ihave PS := (show iprop(payG w0 1 ((0 : Fin 3).val) c ∗ HoldK w0 1 ((0 : Fin 3).val) c) ⊢ iprop(Aside0 w0 1 c ∗ RW c (wM 1) 0 1024 (kq 0) (fin w0 1)) from recv0 w0 1 c) $$ [P S1]
  · isplitl [P]; · iexact P
    iexact S1
  icases PS with ⟨A10, S1⟩
  ihave HO := (show owesE (F := F) c (Ow c 12) ⊢ owesE c 0 by rw [Ow_end]) $$ HO
  ihave S0 := (show RW c (wM 0) 0 1024 (kq 0) (fin w0 0) ⊢ (RW c (Memref.whole cc0_scratch0) 0 1024 (kq 0) (fin w0 0) : sProp 𝕄) from BI.Entails.refl _) $$ S0
  iapply (wp_loadR 𝒱₀ c none Set.univ (M := Memref.whole cc0_scratch0) (lo := 0) rfl) $$ S0; iintro S0
  icases Hout with ⟨%f, Hout⟩
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  ihave S1 := (show RW c (wM 1) 0 1024 (kq 0) (fin w0 1) ⊢ (RW c (Memref.whole cc0_scratch1) 0 1024 (kq 0) (fin w0 1) : sProp 𝕄) from BI.Entails.refl _) $$ S1
  iapply (wp_loadR 𝒱₀ c none Set.univ (M := Memref.whole cc0_scratch1) (lo := 0) rfl) $$ S1; iintro S1
  iapply (wp_load 𝒱₀ (c : Thread nD τ) none Set.univ (m := oM) (Finset.subset_univ _)) $$ Hout; iintro Hout
  iapply (wp_store 𝒱₀ (c : Thread nD τ) none Set.univ (m := oM) (r := r1) (Mk := Finset.univ) (Finset.subset_univ _)) $$ Hout; iintro Hout
  iapply (wait_s w0 K 0 c (wpE_waitDma2_eq 𝒱₀ (c : Thread nD τ) none Set.univ) rfl rfl) $$ [T0 HO]
  · isplitr; · iexact HI
    isplitl [T0]; · iexact T0
    iexact HO
  iintro ⟨HO, T0, P0⟩
  iapply (wait_s w0 K 1 c (wpE_waitDma2_eq 𝒱₀ (c : Thread nD τ) none Set.univ) rfl rfl) $$ [T1 HO]
  · isplitr; · iexact HI
    isplitl [T1]; · iexact T1
    iexact HO
  iintro ⟨HO, T1, P1⟩
  iapply (wait_s w0 K 2 c (wpE_waitDma2_eq 𝒱₀ (c : Thread nD τ) none Set.univ) rfl rfl) $$ [T2 HO]
  · isplitr; · iexact HI
    isplitl [T2]; · iexact T2
    iexact HO
  iintro ⟨HO, T2, P2⟩
  iapply (wait_s w0 K 3 c (wpE_waitDma2_eq 𝒱₀ (c : Thread nD τ) none Set.univ) rfl rfl) $$ [T3 HO]
  · isplitr; · iexact HI
    isplitl [T3]; · iexact T3
    iexact HO
  iintro ⟨HO, T3, P3⟩
  iapply (wait_s w0 K 4 c (wpE_waitDma2_eq 𝒱₀ (c : Thread nD τ) none Set.univ) rfl rfl) $$ [T4 HO]
  · isplitr; · iexact HI
    isplitl [T4]; · iexact T4
    iexact HO
  iintro ⟨HO, T4, P4⟩
  iapply (wait_s w0 K 5 c (wpE_waitDma2_eq 𝒱₀ (c : Thread nD τ) none Set.univ) rfl rfl) $$ [T5 HO]
  · isplitr; · iexact HI
    isplitl [T5]; · iexact T5
    iexact HO
  iintro ⟨HO, T5, P5⟩
  iapply (wait_s w0 K 6 c (wpE_waitDma2_eq 𝒱₀ (c : Thread nD τ) none Set.univ) rfl rfl) $$ [T6 HO]
  · isplitr; · iexact HI
    isplitl [T6]; · iexact T6
    iexact HO
  iintro ⟨HO, T6, P6⟩
  iapply (wait_s w0 K 7 c (wpE_waitDma2_eq 𝒱₀ (c : Thread nD τ) none Set.univ) rfl rfl) $$ [T7 HO]
  · isplitr; · iexact HI
    isplitl [T7]; · iexact T7
    iexact HO
  iintro ⟨HO, T7, P7⟩
  iapply (wait_s w0 K 8 c (wpE_waitDma2_eq 𝒱₀ (c : Thread nD τ) none Set.univ) rfl rfl) $$ [T8 HO]
  · isplitr; · iexact HI
    isplitl [T8]; · iexact T8
    iexact HO
  iintro ⟨HO, T8, P8⟩
  iapply (wait_s w0 K 9 c (wpE_waitDma2_eq 𝒱₀ (c : Thread nD τ) none Set.univ) rfl rfl) $$ [T9 HO]
  · isplitr; · iexact HI
    isplitl [T9]; · iexact T9
    iexact HO
  iintro ⟨HO, T9, P9⟩
  iapply (wait_s w0 K 10 c (wpE_waitDma2_eq 𝒱₀ (c : Thread nD τ) none Set.univ) rfl rfl) $$ [T10 HO]
  · isplitr; · iexact HI
    isplitl [T10]; · iexact T10
    iexact HO
  iintro ⟨HO, T10, P10⟩
  iapply (wait_s w0 K 11 c (wpE_waitDma2_eq 𝒱₀ (c : Thread nD τ) none Set.univ) rfl rfl) $$ [T11 HO]
  · isplitr; · iexact HI
    isplitl [T11]; · iexact T11
    iexact HO
  iintro ⟨HO, T11, P11⟩
  rw [wp_ret]; imodintro
  iapply Hk
  unfold After Dones
  isplitl [HO]; · iexact HO
  isplitl [T0 T1 T2 T3 T4 T5 T6 T7 T8 T9 T10 T11]
  · isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    iexact T11
  isplitl [S0 A00 A01 A02 P6 P8 P10 S1 A10 A11 A12 P7 P9 P11]
  · isplitl [S0 A00 A01 A02 P6 P8 P10]
    · iapply (regroup w0 0 c)
      isplitl [S0]; · iapply (show (RW c (Memref.whole cc0_scratch0) 0 1024 (kq 0) (fin w0 0) : sProp 𝕄) ⊢ RW c (wM 0) 0 1024 (kq 0) (fin w0 0) from BI.Entails.refl _); iexact S0
      isplitl [A02]; · iexact A02
      isplitl [A01]; · iexact A01
      isplitl [A00]; · iexact A00
      isplitl [P6]; · iapply (show sPay w0 6 c ⊢ payS w0 0 2 c from Entails.of_eq (sPay_G w0 0 2 c)); iexact P6
      isplitl [P8]; · iapply (show sPay w0 8 c ⊢ payS w0 0 1 c from Entails.of_eq (sPay_G w0 0 1 c)); iexact P8
      iapply (show sPay w0 10 c ⊢ payS w0 0 0 c from Entails.of_eq (sPay_G w0 0 0 c)); iexact P10
    · iapply (regroup w0 1 c)
      isplitl [S1]; · iapply (show (RW c (Memref.whole cc0_scratch1) 0 1024 (kq 0) (fin w0 1) : sProp 𝕄) ⊢ RW c (wM 1) 0 1024 (kq 0) (fin w0 1) from BI.Entails.refl _); iexact S1
      isplitl [A12]; · iexact A12
      isplitl [A11]; · iexact A11
      isplitl [A10]; · iexact A10
      isplitl [P7]; · iapply (show sPay w0 7 c ⊢ payS w0 1 2 c from Entails.of_eq (sPay_G w0 1 2 c)); iexact P7
      isplitl [P9]; · iapply (show sPay w0 9 c ⊢ payS w0 1 1 c from Entails.of_eq (sPay_G w0 1 1 c)); iexact P9
      iapply (show sPay w0 11 c ⊢ payS w0 1 0 c from Entails.of_eq (sPay_G w0 1 0 c)); iexact P11
  isplitl [R00 R01 R02 R10 R11 R12]
  · isplitl [R00 R01 R02]
    · iapply (rb_join (F := F) 0 c)
      isplitl [R00]; · iexact R00
      isplitl [R01]; · iexact R01
      iexact R02
    · iapply (rb_join (F := F) 1 c)
      isplitl [R10]; · iexact R10
      isplitl [R11]; · iexact R11
      iexact R12
  unfold outP
  iexists _; isplitr
  rotate_left
  · iexact Hout
  · ipureintro; exact out_eq w0 f

end Cert.KernelIdealProof
-- ==== Proof.KernelIdeal.Body.lean ====
/-
The kernel on one device: the entry barrier, the projections and the attention of its eight heads, the partial result put into the
two working buffers, then the exchange.
-/
module

public import proofs.«01_k».proof.Proof.KernelIdeal.Exchange

@[expose] public section

noncomputable section

namespace Cert.KernelIdealProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The partial result -/

/-- What the eight operands hold on a device. -/
structure Ins (F : FTy → Type) where
  x : (⟨2, ![1024, 1024]⟩ : Shape).Idx → Elt F .bf16
  wq : (⟨2, ![1024, 1024]⟩ : Shape).Idx → Elt F .bf16
  wk : (⟨2, ![1024, 1024]⟩ : Shape).Idx → Elt F .bf16
  wv : (⟨2, ![1024, 1024]⟩ : Shape).Idx → Elt F .bf16
  wo : (⟨2, ![1024, 1024]⟩ : Shape).Idx → Elt F .bf16
  cs : (⟨2, ![1024, 1024]⟩ : Shape).Idx → Elt F .f32
  sn : (⟨2, ![1024, 1024]⟩ : Shape).Idx → Elt F .f32
  p : (⟨2, ![1024, 1024]⟩ : Shape).Idx → Elt F .bf16

omit [FloatOps F] in
theorem ins_eq {J : Ins F} {x wq wk wv wo p : (⟨2, ![1024, 1024]⟩ : Shape).Idx → Elt F .bf16} {cs sn : (⟨2, ![1024, 1024]⟩ : Shape).Idx → Elt F .f32}
    (h0 : x = J.x) (h1 : wq = J.wq) (h2 : wk = J.wk) (h3 : wv = J.wv) (h4 : wo = J.wo) (h5 : cs = J.cs) (h6 : sn = J.sn) (h7 : p = J.p) :
    Ins.mk x wq wk wv wo cs sn p = J := by subst h0 h1 h2 h3 h4 h5 h6 h7; rfl

section Partial
variable (I : Ins F)

/-- The rotated keys, the values, the rotated and scaled queries. -/
def kS : FVec F S1024x1024 .bf16 := k0_pay7 (k0_pay1 I.x) (k0_pay2 I.p) I.wk I.cs I.sn
def vS : FVec F S1024x1024 .bf16 := k0_pay8 (k0_pay1 I.x) I.wv
def qS : FVec F S1024x1024 .bf16 := k0_pay9 (k0_pay4 I.x I.p I.wq) (k0_pay5 I.x I.wq I.cs) (k0_pay6 I.sn)

/-- The two halves of the partial result. -/
def slab : Fin 2 → FVec F S1024x512 .bf16
  | ⟨0, _⟩ => k0_pay22 (kS I) (vS I) (qS I)
      (k0_pay10 (k0_pay1 I.x) (k0_pay2 I.p) (k0_pay4 I.x I.p I.wq) (k0_pay5 I.x I.wq I.cs) (k0_pay6 I.sn) I.wk I.cs I.sn I.wv)
      (k0_pay14 (vS I) (k0_pay12 (k0_pay1 I.x) (k0_pay2 I.p) (k0_pay4 I.x I.p I.wq) (k0_pay5 I.x I.wq I.cs) (k0_pay6 I.sn) I.wk I.cs I.sn)
        (k0_pay13 (k0_pay1 I.x) (k0_pay2 I.p) (k0_pay4 I.x I.p I.wq) (k0_pay5 I.x I.wq I.cs) (k0_pay6 I.sn) I.wk I.cs I.sn))
      (k0_pay15 (kS I) (vS I) (qS I)) (k0_pay16 (kS I) (vS I) (qS I)) (k0_pay17 (kS I) (vS I) (qS I)) (k0_pay19 (kS I) (qS I)) (k0_pay20 (kS I) (qS I)) I.wo
  | ⟨1, _⟩ => k0_pay23 (kS I) (vS I) (qS I)
      (k0_pay10 (k0_pay1 I.x) (k0_pay2 I.p) (k0_pay4 I.x I.p I.wq) (k0_pay5 I.x I.wq I.cs) (k0_pay6 I.sn) I.wk I.cs I.sn I.wv)
      (k0_pay14 (vS I) (k0_pay12 (k0_pay1 I.x) (k0_pay2 I.p) (k0_pay4 I.x I.p I.wq) (k0_pay5 I.x I.wq I.cs) (k0_pay6 I.sn) I.wk I.cs I.sn)
        (k0_pay13 (k0_pay1 I.x) (k0_pay2 I.p) (k0_pay4 I.x I.p I.wq) (k0_pay5 I.x I.wq I.cs) (k0_pay6 I.sn) I.wk I.cs I.sn))
      (k0_pay15 (kS I) (vS I) (qS I)) (k0_pay16 (kS I) (vS I) (qS I)) (k0_pay17 (kS I) (vS I) (qS I)) (k0_pay19 (kS I) (qS I)) (k0_pay20 (kS I) (qS I)) I.wo

end Partial

/-- The rows the exchange starts from. -/
def start0 (I : Dev nD → Ins F) : Fin 2 → Dev nD → ℕ → Fin 512 → Elt F .bf16 :=
  fun j c r k => slab (I c) j (ix2 (⟨r % 1024, Nat.mod_lt _ (by decide)⟩ : Fin 1024) k)

theorem slab_vec (I : Dev nD → Ins F) (j : Fin 2) (c : Dev nD) : slab (I c) j = vecOf 1024 (start0 I j c) 0 := by
  funext i
  have h := (i 0).isLt
  change (i 0).val < 1024 at h
  unfold vecOf start0
  refine congrArg (slab (I c) j) (funext fun a => ?_)
  match a with
  | ⟨0, _⟩ => apply Fin.ext; show (i 0).val = (0 + (i 0).val) % 1024; omega
  | ⟨1, _⟩ => rfl

/-! ## Handing over the landing places -/

theorem px_bm (d : Fin 3) (c : Dev nD) : px (bm d) (px (bm d) c) = c := by revert d c; decide

/-- The marks of a device's receive semaphores. -/
def Own (c : Dev nD) : sProp 𝕄 := bigSep Finset.univ fun t : Fin 12 => reached ER (rCell t c) 0

instance Own_persistent (c : Dev nD) : BI.Persistent (Own (F := F) c) := by unfold Own; infer_instance

theorem own_at (c : Dev nD) (t : Fin 12) : Own (F := F) c ⊢ reached ER (rCell t c) 0 := by
  unfold Own; exact elem_of (Finset.mem_univ t)

theorem bar_own (c : Dev nD) (d e : Fin 3) (he : e.val = 2 - d.val) :
    iprop(Own (F := F) c ∗ Rb (F := F) 0 d.val c ∗ Rb 1 e.val c) ⊢ barPay (F := F) (px (bm d) c) d := by
  unfold barPay Rb
  rw [px_bm, he]
  iintro ⟨#HO, H0, H1⟩
  isplitl [H0]; · iexact H0
  isplitl [H1]; · iexact H1
  isplitr; · iapply (own_at c (tR 0 d.val)); iexact HO
  isplitr; · iapply (own_at c (tR 1 (2 - d.val))); iexact HO
  isplitr; · iapply (own_at c (tG 0 d.val)); iexact HO
  iapply (own_at c (tG 1 (2 - d.val))); iexact HO

/-! ## Whole buffers as rows -/

omit [FloatOps F] in
theorem rx_whole (c : Dev nD) {H : ℕ} (M : Memref sig .tc .vmem ⟨2, ![H, 512]⟩ .bf16) (hM : M.view.set = Finset.univ) :
    (RX c M 0 H fullShare : sProp 𝕄)
      = iprop(∃ f : Buf (Elt F) (M.view.loc (c : Thread nD τ)), (M.view.loc (c : Thread nD τ)) ↦{fullShare} f) := by
  unfold RX; rw [rset_whole, hM]
omit [FloatOps F] in
theorem rx_w0 (c : Dev nD) : (RX c (wM 0) 0 1024 fullShare : sProp 𝕄)
    = iprop(∃ f : Buf (Elt F) ((c : Thread nD τ).loc cc0_scratch0), ((c : Thread nD τ).loc cc0_scratch0) ↦{fullShare} f) :=
  rx_whole c (Memref.whole cc0_scratch0) (View.set_whole _)
omit [FloatOps F] in
theorem rx_w1 (c : Dev nD) : (RX c (wM 1) 0 1024 fullShare : sProp 𝕄)
    = iprop(∃ f : Buf (Elt F) ((c : Thread nD τ).loc cc0_scratch1), ((c : Thread nD τ).loc cc0_scratch1) ↦{fullShare} f) :=
  rx_whole c (Memref.whole cc0_scratch1) (View.set_whole _)
omit [FloatOps F] in
theorem rx_r0 (c : Dev nD) : (RX c (rM 0) 0 896 fullShare : sProp 𝕄)
    = iprop(∃ f : Buf (Elt F) ((c : Thread nD τ).loc cc0_scratch2), ((c : Thread nD τ).loc cc0_scratch2) ↦{fullShare} f) :=
  rx_whole c (Memref.whole cc0_scratch2) (View.set_whole _)
omit [FloatOps F] in
theorem rx_r1 (c : Dev nD) : (RX c (rM 1) 0 896 fullShare : sProp 𝕄)
    = iprop(∃ f : Buf (Elt F) ((c : Thread nD τ).loc cc0_scratch3), ((c : Thread nD τ).loc cc0_scratch3) ↦{fullShare} f) :=
  rx_whole c (Memref.whole cc0_scratch3) (View.set_whole _)

/-! ## The body -/

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem zero2 : (![0, 0] : Fin 2 → Nat) = fun _ => 0 := funext fun a => by fin_cases a <;> rfl

variable (I : Dev nD → Ins F) (K : GSem nD τ sig → ℕ)

/-- The operands' staging buffers. -/
def Stgs (c : Dev nD) : sProp 𝕄 :=
  iprop(stg c cc0_stg0_0 (I c).x ∗ stg c cc0_stg1_0 (I c).wq ∗ stg c cc0_stg2_0 (I c).wk ∗ stg c cc0_stg3_0 (I c).wv ∗ stg c cc0_stg4_0 (I c).wo
    ∗ stg c cc0_stg5_0 (I c).cs ∗ stg c cc0_stg6_0 (I c).sn ∗ stg c cc0_stg7_0 (I c).p)

/-- The scratch buffers, whatever they hold. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The protocol state the kernel starts from. -/
def Ghost (c : Dev nD) : sProp 𝕄 :=
  iprop(invs (start0 I) K c ∗ Own (F := F) c ∗ Inits (F := F) c
    ∗ (dutyTok ER (barCell (px (bm 0) c)) 0 (0 : Fin 3) ∗ dutyTok ER (barCell (px (bm 1) c)) 0 (1 : Fin 3) ∗ dutyTok ER (barCell (px (bm 2) c)) 0 (2 : Fin 3))
    ∗ atPos ER (barCell c) 0 ∅ 0 ∗ cred (tallyAt (barCell c) () 3))

/-- What it leaves. -/
def Left (c : Dev nD) : sProp 𝕄 := iprop(Dones (F := F) c ∗ semVal (barCell c) 0)

set_option maxHeartbeats 4000000 in
theorem sound_body (c : Dev nD) (Kt : PUnit → sProp (MT nD τ sig Unit (Elt F) ℕ UU ℕ)) :
    iprop(Ghost I K c ∗ levAts L lv ∗ owesE c (O₀ c) ∗ Stgs I c
        ∗ (∃ f : Buf (Elt F) ((c : Thread nD τ).loc cc0_stg8_0), ((c : Thread nD τ).loc cc0_stg8_0) ↦{fullShare} f) ∗ Scr (F := F) c
        ∗ ((Left (F := F) c ∗ owesE c 0 ∗ Stgs I c ∗ outP (start0 I) c ∗ Scr (F := F) c) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _) (Memref.whole cc0_stg8_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5) Kt := by
  rw [cc0_body_eq_skeleton]
  unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold Ghost Stgs Scr
  iintro ⟨⟨#HI, #Hown, HIn, ⟨Ht0, Ht1, Ht2⟩, Hat, Hcr⟩, #Hlev, HO,
    ⟨⟨%g0, %e0, G0⟩, ⟨%g1, %e1, G1⟩, ⟨%g2, %e2, G2⟩, ⟨%g3, %e3, G3⟩, ⟨%g4, %e4, G4⟩, ⟨%g5, %e5, G5⟩, ⟨%g6, %e6, G6⟩, ⟨%g7, %e7, G7⟩⟩, Hout, ⟨⟨%f0, W0⟩, ⟨%f1, W1⟩, R0, R1⟩, Hk⟩
  ihave R0' := (show iprop(∃ f : Buf (Elt F) ((c : Thread nD τ).loc cc0_scratch2), ((c : Thread nD τ).loc cc0_scratch2) ↦{fullShare} f) ⊢ (iprop(Rb (F := F) 0 0 c ∗ Rb 0 1 c ∗ Rb 0 2 c) : sProp 𝕄)
    from (Entails.of_eq (rx_r0 c).symm).trans (rb_split 0 c)) $$ R0
  ihave R1' := (show iprop(∃ f : Buf (Elt F) ((c : Thread nD τ).loc cc0_scratch3), ((c : Thread nD τ).loc cc0_scratch3) ↦{fullShare} f) ⊢ (iprop(Rb (F := F) 1 0 c ∗ Rb 1 1 c ∗ Rb 1 2 c) : sProp 𝕄)
    from (Entails.of_eq (rx_r1 c).symm).trans (rb_split 1 c)) $$ R1
  icases R0' with ⟨R00, R01, R02⟩
  icases R1' with ⟨R10, R11, R12⟩
  iapply (signal_bar (start0 I) K c _ 0 (dev1_eq c) (O₀ c) (O₂ c) rfl rfl rfl) $$ [Ht0 HO R00 R12]
  · isplitr; · iexact HI
    isplitl [Ht0]; · iexact Ht0
    isplitl [HO]; · iexact HO
    iapply (bar_own c 0 2 rfl)
    isplitr; · iexact Hown
    isplitl [R00]; · iexact R00
    iexact R12
  iintro HO
  iapply (signal_bar (start0 I) K c _ 1 (dev2_eq c) (O₂ c) (O₃ c) rfl rfl rfl) $$ [Ht1 HO R01 R11]
  · isplitr; · iexact HI
    isplitl [Ht1]; · iexact Ht1
    isplitl [HO]; · iexact HO
    iapply (bar_own c 1 1 rfl)
    isplitr; · iexact Hown
    isplitl [R01]; · iexact R01
    iexact R11
  iintro HO
  iapply (signal_bar (start0 I) K c _ 2 (dev3_eq c) (O₃ c) (Ow c 0) rfl rfl rfl) $$ [Ht2 HO R02 R10]
  · isplitr; · iexact HI
    isplitl [Ht2]; · iexact Ht2
    isplitl [HO]; · iexact HO
    iapply (bar_own c 2 0 rfl)
    isplitr; · iexact Hown
    isplitl [R02]; · iexact R02
    iexact R10
  iintro HO
  iapply (wait_bar (start0 I) K c (wpE_semWait_eq 𝒱₀ (c : Thread nD τ) none Set.univ) rfl rfl) $$ [Hat Hcr HO]
  · isplitr; · iexact HI
    isplitr; · iexact Hlev
    isplitl [Hat]; · iexact Hat
    isplitl [Hcr]; · iexact Hcr
    iexact HO
  iintro ⟨HO, Hbz, Hb⟩
  iapply (wp_load 𝒱₀ (c : Thread nD τ) none Set.univ (m := Memref.whole cc0_stg0_0) (Finset.subset_univ _)) $$ G0; iintro G0
  iapply (wp_load 𝒱₀ (c : Thread nD τ) none Set.univ (m := Memref.whole cc0_stg7_0) (Finset.subset_univ _)) $$ G7; iintro G7
  iapply (wp_load 𝒱₀ (c : Thread nD τ) none Set.univ (m := Memref.whole cc0_stg1_0) (Finset.subset_univ _)) $$ G1; iintro G1
  iapply (wp_load 𝒱₀ (c : Thread nD τ) none Set.univ (m := Memref.whole cc0_stg5_0) (Finset.subset_univ _)) $$ G5; iintro G5
  iapply (wp_load 𝒱₀ (c : Thread nD τ) none Set.univ (m := Memref.whole cc0_stg6_0) (Finset.subset_univ _)) $$ G6; iintro G6
  iapply (wp_load 𝒱₀ (c : Thread nD τ) none Set.univ (m := Memref.whole cc0_stg2_0) (Finset.subset_univ _)) $$ G2; iintro G2
  iapply (wp_load 𝒱₀ (c : Thread nD τ) none Set.univ (m := Memref.whole cc0_stg5_0) (Finset.subset_univ _)) $$ G5; iintro G5
  iapply (wp_load 𝒱₀ (c : Thread nD τ) none Set.univ (m := Memref.whole cc0_stg6_0) (Finset.subset_univ _)) $$ G6; iintro G6
  iapply (wp_load 𝒱₀ (c : Thread nD τ) none Set.univ (m := Memref.whole cc0_stg3_0) (Finset.subset_univ _)) $$ G3; iintro G3
  iapply (wp_load 𝒱₀ (c : Thread nD τ) none Set.univ (m := Memref.whole cc0_stg4_0) (Finset.subset_univ _)) $$ G4; iintro G4
  have E0 := (Memref.readAt_unit_zero (Elt F) cc0_stg0_0 zero2 inb_S1024x1024_S1024x1024_0_0 g0).trans e0
  have E1 := (Memref.readAt_unit_zero (Elt F) cc0_stg1_0 zero2 inb_S1024x1024_S1024x1024_0_0 g1).trans e1
  have E2 := (Memref.readAt_unit_zero (Elt F) cc0_stg2_0 zero2 inb_S1024x1024_S1024x1024_0_0 g2).trans e2
  have E3 := (Memref.readAt_unit_zero (Elt F) cc0_stg3_0 zero2 inb_S1024x1024_S1024x1024_0_0 g3).trans e3
  have E4 := (Memref.readAt_unit_zero (Elt F) cc0_stg4_0 zero2 inb_S1024x1024_S1024x1024_0_0 g4).trans e4
  have E5 := (Memref.readAt_unit_zero (Elt F) cc0_stg5_0 zero2 inb_S1024x1024_S1024x1024_0_0 g5).trans e5
  have E6 := (Memref.readAt_unit_zero (Elt F) cc0_stg6_0 zero2 inb_S1024x1024_S1024x1024_0_0 g6).trans e6
  have E7 := (Memref.readAt_unit_zero (Elt F) cc0_stg7_0 zero2 inb_S1024x1024_S1024x1024_0_0 g7).trans e7
  iapply (wp_load 𝒱₀ (c : Thread nD τ) none Set.univ (m := Memref.whole cc0_scratch0) (Finset.subset_univ _)) $$ W0; iintro W0
  ihave W0' := (show iprop(((c : Thread nD τ).loc cc0_scratch0) ↦{fullShare} f0) ⊢ (RX c (Memref.whole cc0_scratch0) 0 1024 fullShare : sProp 𝕄) from
    (by iintro H; iexists f0; iexact H : iprop(((c : Thread nD τ).loc cc0_scratch0) ↦{fullShare} f0)
      ⊢ iprop(∃ f : Buf (Elt F) ((c : Thread nD τ).loc cc0_scratch0), ((c : Thread nD τ).loc cc0_scratch0) ↦{fullShare} f)).trans (Entails.of_eq (rx_w0 c).symm)) $$ W0
  iapply (wp_storeR 𝒱₀ c none Set.univ (M := (Memref.whole cc0_scratch0)) (n := 1024) (lo := 0) rfl (G := start0 I 0 c) ((congrArg (fun J => slab J 0) (ins_eq E0 E1 E2 E3 E4 E5 E6 E7)).trans (slab_vec I 0 c))) $$ W0'
  iintro S0
  iapply (wp_load 𝒱₀ (c : Thread nD τ) none Set.univ (m := Memref.whole cc0_scratch1) (Finset.subset_univ _)) $$ W1; iintro W1
  ihave W1' := (show iprop(((c : Thread nD τ).loc cc0_scratch1) ↦{fullShare} f1) ⊢ (RX c (Memref.whole cc0_scratch1) 0 1024 fullShare : sProp 𝕄) from
    (by iintro H; iexists f1; iexact H : iprop(((c : Thread nD τ).loc cc0_scratch1) ↦{fullShare} f1)
      ⊢ iprop(∃ f : Buf (Elt F) ((c : Thread nD τ).loc cc0_scratch1), ((c : Thread nD τ).loc cc0_scratch1) ↦{fullShare} f)).trans (Entails.of_eq (rx_w1 c).symm)) $$ W1
  iapply (wp_storeR 𝒱₀ c none Set.univ (M := (Memref.whole cc0_scratch1)) (n := 1024) (lo := 0) rfl (G := start0 I 1 c) ((congrArg (fun J => slab J 1) (ins_eq E0 E1 E2 E3 E4 E5 E6 E7)).trans (slab_vec I 1 c))) $$ W1'
  iintro S1
  iapply (exchange (start0 I) K c (Scalar.remsi (Scalar.divsi (Dev.word c) 1#32) 8#32) 4#32 Kt)
  isplitr; · iexact HI
  isplitr; · iexact Hlev
  isplitl [HIn]; · iexact HIn
  isplitl [Hb]; · iexact Hb
  isplitl [HO]; · iexact HO
  isplitl [S0 S1]
  · isplitl [S0]
    · iapply (show (RW c (Memref.whole cc0_scratch0) 0 1024 fullShare (start0 I 0 c) : sProp 𝕄) ⊢ Slab (start0 I) 0 0 c from BI.Entails.refl _); iexact S0
    · iapply (show (RW c (Memref.whole cc0_scratch1) 0 1024 fullShare (start0 I 1 c) : sProp 𝕄) ⊢ Slab (start0 I) 1 0 c from BI.Entails.refl _); iexact S1
  isplitl [Hout]; · iexact Hout
  unfold After
  iintro ⟨HO, HD, ⟨S0, S1⟩, ⟨R0, R1⟩, Hout⟩
  iapply Hk
  unfold Left
  isplitl [HD Hbz]
  · isplitl [HD]; · iexact HD
    iexact Hbz
  isplitl [HO]; · iexact HO
  isplitl [G0 G1 G2 G3 G4 G5 G6 G7]
  · isplitl [G0]
    · iexists g0; isplitr; · ipureintro; exact e0
      iexact G0
    isplitl [G1]
    · iexists g1; isplitr; · ipureintro; exact e1
      iexact G1
    isplitl [G2]
    · iexists g2; isplitr; · ipureintro; exact e2
      iexact G2
    isplitl [G3]
    · iexists g3; isplitr; · ipureintro; exact e3
      iexact G3
    isplitl [G4]
    · iexists g4; isplitr; · ipureintro; exact e4
      iexact G4
    isplitl [G5]
    · iexists g5; isplitr; · ipureintro; exact e5
      iexact G5
    isplitl [G6]
    · iexists g6; isplitr; · ipureintro; exact e6
      iexact G6
    iexists g7; isplitr; · ipureintro; exact e7
    iexact G7
  isplitl [Hout]; · iexact Hout
  isplitl [S0]; · iapply (Entails.of_eq (rx_w0 c)); iexact S0
  isplitl [S1]; · iapply (Entails.of_eq (rx_w1 c)); iexact S1
  isplitl [R0]; · iapply (Entails.of_eq (rx_r0 c)); iexact R0
  iapply (Entails.of_eq (rx_r1 c)); iexact R1

end Cert.KernelIdealProof
-- ==== Proof.KernelIdeal.Region.lean ====
/-
The pallas_call as the pipeline runs it: the contents of its nine windows, what the body finds and leaves, and the body's obligation.
-/
module

public import proofs.«01_k».proof.Proof.KernelIdeal.Body
public import proofs.«01_k».proof.Proof.Gen.KernelIdeal.Frame
public import proofs.«01_k».proof.Proof.Gen.KernelIdeal.Points
public import Idealize.ShloMosaic.Lib.Pipeline.RegionTalk

@[expose] public section

noncomputable section

namespace Cert.KernelIdealProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What the eight operands hold on device `c` when the kernel starts. -/
def Iof (c : Dev nD) : Ins F where
  x := iblk m c 0 t0_0
  wq := iblk m c 1 t0_0
  wk := iblk m c 2 t0_0
  wv := iblk m c 3 t0_0
  wo := iblk m c 4 t0_0
  cs := iblk m c 5 t0_0
  sn := iblk m c 6 t0_0
  p := iblk m c 7 t0_0

/-- What the body starts from besides the windows, and what it leaves. -/
def Pre (c : Dev nD) : sProp 𝕄 := iprop((∃ K, Ghost (Iof m) K c) ∗ levAts L lv ∗ Scr (F := F) c ∗ ∃ r, prngReg c r)
def Post (c : Dev nD) : sProp 𝕄 := iprop(Left (F := F) c ∗ Scr (F := F) c ∗ ∃ r, prngReg c r)

/-- The proof data: inputs as fetched, the result the finished rows; before the one point everything owed, after it nothing. -/
def dat0 (c : Dev nD) : Dat τ (Elt F) Unit ℕ UU ℕ cfg0 c where
  A w := V m c (Pipeline.arrRef spec0 w)
  after w _ := match w with
    | ⟨0, _⟩ => (Iof m c).x
    | ⟨1, _⟩ => (Iof m c).wq
    | ⟨2, _⟩ => (Iof m c).wk
    | ⟨3, _⟩ => (Iof m c).wv
    | ⟨4, _⟩ => (Iof m c).wo
    | ⟨5, _⟩ => (Iof m c).cs
    | ⟨6, _⟩ => (Iof m c).sn
    | ⟨7, _⟩ => (Iof m c).p
    | ⟨8, _⟩ => outC (start0 (Iof m))
    | ⟨_ + 9, h⟩ => absurd h (Nat.not_lt.2 (Nat.le_add_left _ _))
  Φ t := if t.val = 0 then Pre m c else Post c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (dat0 m c).owed t0_0.succ = 0 := by
  show (if (t0_0.succ : Fin (cfg0.N + 1)).val = 0 then O₀ c else 0) = 0; exact if_neg (Nat.succ_ne_zero _)
theorem inv_first (c : Dev nD) : (dat0 m c).Φ t0_0.castSucc = Pre m c := by
  show (if (t0_0.castSucc : Fin (cfg0.N + 1)).val = 0 then Pre m c else Post c) = _; exact if_pos rfl
theorem inv_last (c : Dev nD) : (dat0 m c).Φ t0_0.succ = Post c := by
  show (if (t0_0.succ : Fin (cfg0.N + 1)).val = 0 then Pre m c else Post c) = _; exact if_neg (Nat.succ_ne_zero _)

theorem owes_of (c : Dev nD) (O : CellTallies nD τ sig Unit) (h : (dat0 m c).owed t0_0.castSucc = O) :
    ((dat0 m c).owesAt () t0_0.castSucc : sProp 𝕄) ⊢ owesE c O := by
  unfold Dat.owesAt Pipeline.owesWithin owesE; rw [h]
  iintro ⟨%W, -, H⟩; iexists W; iexact H
theorem owes_to (c : Dev nD) (O : CellTallies nD τ sig Unit) (h : (dat0 m c).owed t0_0.succ = O) :
    owesE c O ⊢ ((dat0 m c).owesAt () t0_0.succ : sProp 𝕄) := by
  unfold Dat.owesAt Pipeline.owesWithin Dat.bound owesE; rw [h]
  iintro ⟨%W, H⟩; iexists W; isplitr; · ipureintro; exact fun _ _ => Or.inl trivial
  iexact H

omit [FloatOps F] in
theorem owns_stg (c : Dev nD) (b : Ref sig .tc) (X : b.ty.Contents (Elt F)) :
    (owns (c : Thread nD τ) (Memref.whole b) fullShare X : sProp 𝕄) = stg c b X := by
  unfold owns; simp only [Memref.view_whole, View.read_whole, View.set_whole]

section Before
variable (c : Dev nD)
theorem bef0 (d) : (dat0 m c).before 0 t0_0 d = (Iof m c).x := by unfold Dat.before; rw [if_pos (fetch0_0 t0_0)]; rfl
theorem bef1 (d) : (dat0 m c).before 1 t0_0 d = (Iof m c).wq := by unfold Dat.before; rw [if_pos (fetch0_1 t0_0)]; rfl
theorem bef2 (d) : (dat0 m c).before 2 t0_0 d = (Iof m c).wk := by unfold Dat.before; rw [if_pos (fetch0_2 t0_0)]; rfl
theorem bef3 (d) : (dat0 m c).before 3 t0_0 d = (Iof m c).wv := by unfold Dat.before; rw [if_pos (fetch0_3 t0_0)]; rfl
theorem bef4 (d) : (dat0 m c).before 4 t0_0 d = (Iof m c).wo := by unfold Dat.before; rw [if_pos (fetch0_4 t0_0)]; rfl
theorem bef5 (d) : (dat0 m c).before 5 t0_0 d = (Iof m c).cs := by unfold Dat.before; rw [if_pos (fetch0_5 t0_0)]; rfl
theorem bef6 (d) : (dat0 m c).before 6 t0_0 d = (Iof m c).sn := by unfold Dat.before; rw [if_pos (fetch0_6 t0_0)]; rfl
theorem bef7 (d) : (dat0 m c).before 7 t0_0 d = (Iof m c).p := by unfold Dat.before; rw [if_pos (fetch0_7 t0_0)]; rfl
end Before

set_option maxRecDepth 4000 in
set_option maxHeartbeats 1000000 in
/-- The body's obligation: the staging buffers taken apart, `sound_body` applied. -/
theorem body_ob (c : Dev nD) : BodyObligation (dat0 m c) (defs₀ (F := F)) 𝒱₀ () Set.univ := fun t => by
  obtain rfl := fin_N0 t
  rw [bigSep_W0, bigSep_W0]
  simp only [owns_stg]
  rw [inv_first, inv_last]
  unfold Pre Post
  iintro ⟨⟨⟨%K, HG⟩, #Hlev, HS, Hp⟩, HO, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩, ⟨%d6, %f6, %h6, H6⟩, ⟨%d7, %f7, %h7, H7⟩, ⟨%d8, %f8, -, H8⟩⟩
  rw [bef0] at h0; rw [bef1] at h1; rw [bef2] at h2; rw [bef3] at h3; rw [bef4] at h4; rw [bef5] at h5; rw [bef6] at h6; rw [bef7] at h7
  ihave HO' := (owes_of m c (O₀ c) (owed_first m c)) $$ HO
  iapply (sound_body (Iof m) K c _)
  isplitl [HG]; · iexact HG
  isplitr; · iexact Hlev
  isplitl [HO']; · iexact HO'
  isplitl [H0 H1 H2 H3 H4 H5 H6 H7]
  · unfold Stgs
    isplitl [H0]; · iexists f0; isplitr; (· ipureintro; exact h0); iexact H0
    isplitl [H1]; · iexists f1; isplitr; (· ipureintro; exact h1); iexact H1
    isplitl [H2]; · iexists f2; isplitr; (· ipureintro; exact h2); iexact H2
    isplitl [H3]; · iexists f3; isplitr; (· ipureintro; exact h3); iexact H3
    isplitl [H4]; · iexists f4; isplitr; (· ipureintro; exact h4); iexact H4
    isplitl [H5]; · iexists f5; isplitr; (· ipureintro; exact h5); iexact H5
    isplitl [H6]; · iexists f6; isplitr; (· ipureintro; exact h6); iexact H6
    iexists f7; isplitr; (· ipureintro; exact h7); iexact H7
  isplitl [H8]; · iexists f8; iexact H8
  isplitl [HS]; · iexact HS
  unfold Stgs outP
  iintro ⟨HL, HO, ⟨G0, G1, G2, G3, G4, G5, G6, G7⟩, G8, HS⟩
  isplitl [HL HS Hp]
  · isplitl [HL]; · iexact HL
    isplitl [HS]; · iexact HS
    iexact Hp
  isplitl [HO]; · iapply (owes_to m c 0 (owed_last m c)); iexact HO
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

end Cert.KernelIdealProof

end
-- ==== Proof.KernelIdeal.Deal.lean ====
/-
What the launch deals to the devices: the cells of the protocol, the tokens of the duties each device pays, the credits each device
collects, and the opening of the send and receive cells when the kernel starts.
-/
module

public import proofs.«01_k».proof.Proof.KernelIdeal.Body

@[expose] public section

noncomputable section

namespace Cert.KernelIdealProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own semaphores and cells -/

/-- The send (0) and receive (1) semaphore of each transfer. -/
def osem : Fin 12 × Fin 2 → SemLoc sig := fun k => if k.2 = 0 then sS k.1 else rS k.1

theorem osem_inj : Function.Injective osem := by decide
theorem osem_ne_bar : ∀ k, osem k ≠ .reg barS := by decide
theorem rS_inj : Function.Injective rS := by decide

def barEmb : Dev nD ↪ GSem nD τ sig := ⟨fun c => barCell c, fun _ _ h => congrArg (fun g : GSem nD τ sig => g.1.1) h⟩
def ownEmb : Dev nD × (Fin 12 × Fin 2) ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  intro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ ownCells : Finset (GSem nD τ sig)) :=
  Finset.mem_union_left _ (Finset.mem_map_of_mem barEmb (Finset.mem_univ c))
theorem s_mem (t : Fin 12) (c : Dev nD) : sCell t c ∈ (barCells ∪ ownCells : Finset (GSem nD τ sig)) :=
  Finset.mem_union_right _ (Finset.mem_map_of_mem ownEmb (Finset.mem_univ (c, (t, (0 : Fin 2)))))
theorem r_mem (t : Fin 12) (c : Dev nD) : rCell t c ∈ (barCells ∪ ownCells : Finset (GSem nD τ sig)) :=
  Finset.mem_union_right _ (Finset.mem_map_of_mem ownEmb (Finset.mem_univ (c, (t, (1 : Fin 2)))))

/-! ## Sums over devices and transfers -/

omit [FloatOps F] in
/-- Over the kernel's own cells of one device: transfer by transfer. -/
theorem own_sum (c : Dev nD) (Φ : GSem nD τ sig → sProp 𝕄) :
    (bigSep Finset.univ fun k => Φ ((c : Thread nD τ), osem k)) = bigSep Finset.univ fun t : Fin 12 => iprop(Φ (sCell t c) ∗ Φ (rCell t c)) := by
  rw [bigSep_univ_prod]
  exact bigSep_congr fun t _ => bigSep_univ_two _

omit [FloatOps F] in
theorem ownCells_sum (Φ : GSem nD τ sig → sProp 𝕄) :
    bigSep ownCells Φ = bigSep Finset.univ fun c : Dev nD => bigSep Finset.univ fun t : Fin 12 => iprop(Φ (sCell t c) ∗ Φ (rCell t c)) := by
  rw [bigSep_map, bigSep_univ_prod]
  exact bigSep_congr fun c _ => own_sum c Φ

omit [FloatOps F] in
theorem barCells_sum (Φ : GSem nD τ sig → sProp 𝕄) : bigSep barCells Φ = bigSep Finset.univ fun c : Dev nD => Φ (barCell c) := bigSep_map _

omit [FloatOps F] in
theorem swap_sums {ι κ : Type} [Fintype κ] (s : Finset ι) (Φ : ι → κ → sProp 𝕄) :
    (bigSep s fun i => bigSep Finset.univ fun j => Φ i j) = bigSep Finset.univ fun j => bigSep s fun i => Φ i j := by
  classical
  induction s using Finset.induction_on with
  | empty => rw [BI.bigSep_empty]; exact (BI.bigSep_emp_const _).symm.trans (BI.bigSep_congr fun j _ => BI.bigSep_empty.symm)
  | insert i s hi ih =>
    rw [BI.bigSep_insert hi, ih, BI.bigSep_congr fun j _ => BI.bigSep_insert hi (Φ := fun i => Φ i j)]
    exact (BI.bigSep_sep _ _ _).symm

omit [FloatOps F] in
/-- Each summand handed to another device, by an exchange of its own. -/
theorem around {ι : Type} [Fintype ι] (p : ι → Dev nD → Dev nD) (hp : ∀ i c, p i (p i c) = c) (Φ : Dev nD → ι → sProp 𝕄) :
    (bigSep Finset.univ fun c => bigSep Finset.univ fun i => Φ c i) = bigSep Finset.univ fun c => bigSep Finset.univ fun i => Φ (p i c) i := by
  rw [swap_sums, swap_sums Finset.univ fun c i => Φ (p i c) i]
  exact bigSep_congr fun i _ => bigSep_univ_equiv (⟨p i, p i, hp i, hp i⟩ : Dev nD ≃ Dev nD) fun c => Φ c i

theorem inits_sum (c : Dev nD) : Inits (F := F) c = bigSep Finset.univ fun t : Fin 12 => Init (F := F) c t := by
  rw [bigSep_univ_eq_bigSepL [0, 1, 2, 3, 4, 5, 6, 7, 8, 9, 10, 11] (by decide) (by decide)]
  simp only [bigSepL_cons_cons, bigSepL_singleton]
  rfl
omit [FloatOps F] in
theorem dones_sum (c : Dev nD) : Dones (F := F) c = bigSep Finset.univ fun t : Fin 12 => Done (F := F) c t := by
  rw [bigSep_univ_eq_bigSepL [0, 1, 2, 3, 4, 5, 6, 7, 8, 9, 10, 11] (by decide) (by decide)]
  simp only [bigSepL_cons_cons, bigSepL_singleton]
  rfl
omit [FloatOps F] in
theorem three_sum (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

/-! ## The duties' tokens -/

abbrev Tok : Type := GSem nD τ sig × ℕ × Fin 3
def barTok : Dev nD × Fin 3 ↪ Tok :=
  ⟨fun cd => (barCell cd.1, 0, cd.2), fun _ _ h =>
    Prod.ext (congrArg (fun x : Tok => x.1.1.1) h) (congrArg (fun x : Tok => x.2.2) h)⟩
def ownTok : Dev nD × (Fin 12 × Fin 2) ↪ Tok :=
  ⟨fun ck => (ownEmb ck, 0, 0), fun _ _ h => ownEmb.injective (congrArg Prod.fst h)⟩
def toks : Finset Tok := Finset.univ.map barTok ∪ Finset.univ.map ownTok

theorem toks_disjoint : Disjoint (Finset.univ.map barTok : Finset Tok) (Finset.univ.map ownTok) := by
  rw [Finset.disjoint_left]
  intro g h₁ h₂
  obtain ⟨c, -, rfl⟩ := Finset.mem_map.mp h₁
  obtain ⟨ck, -, h⟩ := Finset.mem_map.mp h₂
  exact osem_ne_bar ck.2 (congrArg (fun x : Tok => x.1.2) h)

/-- The tokens of the duties device `c` pays. -/
def barToks (c : Dev nD) : sProp 𝕄 := bigSep Finset.univ fun d : Fin 3 => dutyTok ER (barCell (px (bm d) c)) 0 d
def dmaToks (c : Dev nD) : sProp 𝕄 := bigSep Finset.univ fun t : Fin 12 => iprop(dutyTok ER (sCell t c) 0 (0 : Fin 3) ∗ dutyTok ER (rCell t (tp t c)) 0 (0 : Fin 3))

omit [FloatOps F] in
theorem toks_deal : (bigSep toks fun x => (dutyTok ER x.1 x.2.1 x.2.2 : sProp 𝕄))
    = iprop((bigSep Finset.univ fun c : Dev nD => barToks (F := F) c) ∗ bigSep Finset.univ fun c : Dev nD => dmaToks (F := F) c) := by
  unfold toks
  rw [bigSep_union toks_disjoint, bigSep_map, bigSep_map, bigSep_univ_prod, bigSep_univ_prod]
  have h1 : (bigSep Finset.univ fun c : Dev nD => bigSep Finset.univ fun d : Fin 3 => (dutyTok ER (barCell c) 0 d : sProp 𝕄))
      = bigSep Finset.univ fun c : Dev nD => barToks (F := F) c :=
    around (fun d c => px (bm d) c) (fun d c => px_bm d c) fun c d => dutyTok ER (barCell c) 0 d
  have h2 : (bigSep Finset.univ fun c : Dev nD => bigSep Finset.univ fun k : Fin 12 × Fin 2 => (dutyTok ER ((c : Thread nD τ), osem k) 0 (0 : Fin 3) : sProp 𝕄))
      = bigSep Finset.univ fun c : Dev nD => dmaToks (F := F) c := by
    rw [bigSep_congr fun (c : Dev nD) _ => own_sum c fun g => (dutyTok ER g 0 (0 : Fin 3) : sProp 𝕄)]
    rw [bigSep_congr fun (c : Dev nD) _ => bigSep_sep' Finset.univ (fun t : Fin 12 => (dutyTok ER (sCell t c) 0 (0 : Fin 3) : sProp 𝕄)) fun t => dutyTok ER (rCell t c) 0 (0 : Fin 3)]
    rw [bigSep_sep', around tp tp_tp fun c t => (dutyTok ER (rCell t c) 0 (0 : Fin 3) : sProp 𝕄), ← bigSep_sep']
    exact bigSep_congr fun c _ => by unfold dmaToks; rw [bigSep_sep']
  exact congrArg₂ (fun a b => iprop(a ∗ b)) h1 h2

/-! ## The credits -/

theorem OwR_at (d c : Dev nD) (t : Fin 12) : ∀ n ≤ 12, OwR d n (rCell t c) () = if 12 - n ≤ t.val ∧ c = tp t d then Nt t else 0
  | 0, _ => (if_neg fun h => by have := t.isLt; omega).symm
  | n + 1, hn => by
    unfold OwR
    rw [Pi.add_apply, Finsupp.add_apply, OwR_at d c t n (by omega), tallyAt_apply]
    have hl := t.isLt
    by_cases h : t.val = 11 - n
    · have e : (⟨(11 - n) % 12, Nat.mod_lt _ (by decide)⟩ : Fin 12) = t := Fin.ext (by dsimp only; omega)
      rw [e, if_neg fun h' => by omega, Nat.zero_add]
      refine if_congr ⟨fun ⟨h1, _⟩ => ⟨by omega, congrArg (fun g : GSem nD τ sig => g.1.1) h1⟩, fun ⟨_, h2⟩ => ⟨by rw [h2], rfl⟩⟩ rfl rfl
    · have hn : ¬ (rCell t c = rCell ⟨(11 - n) % 12, Nat.mod_lt _ (by decide)⟩ (tp ⟨(11 - n) % 12, Nat.mod_lt _ (by decide)⟩ d) ∧ (() : Unit) = ()) :=
        fun h1 => h (by have := congrArg Fin.val (rS_inj (congrArg Prod.snd h1.1)); dsimp only at this; omega)
      rw [if_neg hn, Nat.add_zero]
      exact if_congr ⟨fun ⟨h1, h2⟩ => ⟨by omega, h2⟩, fun ⟨h1, h2⟩ => ⟨by omega, h2⟩⟩ rfl rfl

theorem rS_ne_bar (t : Fin 12) : rS t ≠ .reg barS := by revert t; decide

theorem owed_r (d c : Dev nD) (t : Fin 12) : O₀ d (rCell t c) () = if d = tp t c then Nt t else 0 := by
  unfold O₀ O₂ O₃ Ow
  rw [Pi.add_apply, Finsupp.add_apply, Pi.add_apply, Finsupp.add_apply, Pi.add_apply, Finsupp.add_apply,
    tallyAt_ne_cell (fun h => rS_ne_bar t (congrArg Prod.snd h)), tallyAt_ne_cell (fun h => rS_ne_bar t (congrArg Prod.snd h)),
    tallyAt_ne_cell (fun h => rS_ne_bar t (congrArg Prod.snd h)), OwR_at d c t 12 le_rfl]
  simp only [Finsupp.zero_apply, Nat.add_zero]
  exact if_congr ⟨fun h => by rw [h.2, tp_tp], fun h => ⟨by omega, by rw [h, tp_tp]⟩⟩ rfl rfl

theorem px_iff (b : Fin 8) (c d : Dev nD) : c = px b.val d ↔ d = px b.val c := by revert b c d; decide

theorem owed_bar (d c : Dev nD) :
    O₀ d (barCell c) () = (if d = px 1 c then 1 else 0) + (if d = px 2 c then 1 else 0) + (if d = px 4 c then 1 else 0) := by
  have hz : Ow d 0 (barCell c) () = 0 := by
    by_contra h
    obtain ⟨t, -, e⟩ := Ow_pos d 0 (by omega) (Nat.pos_of_ne_zero h)
    exact rS_ne_bar t (congrArg Prod.snd e).symm
  have hc (b : Fin 8) : (tallyAt (barCell (px b.val d)) () 1 : CellTallies nD τ sig Unit) (barCell c) () = if d = px b.val c then 1 else 0 := by
    rw [tallyAt_apply]
    exact if_congr ⟨fun ⟨h, _⟩ => (px_iff b c d).mp (congrArg (fun g : GSem nD τ sig => g.1.1) h), fun h => ⟨by rw [← (px_iff b c d).mpr h], rfl⟩⟩ rfl rfl
  unfold O₀ O₂ O₃
  rw [Pi.add_apply, Finsupp.add_apply, Pi.add_apply, Finsupp.add_apply, Pi.add_apply, Finsupp.add_apply, hz, Nat.zero_add]
  exact congrArg₂ (· + ·) (congrArg₂ (· + ·) (hc 1) (hc 2)) (hc 4)

theorem launch_r (t : Fin 12) (c : Dev nD) :
    tallyOn (rCell t c) (launchCredit (Pipeline.owing O₀) 0 (rCell t c)) = (tallyAt (rCell t c) () (Nt t) : CellTallies nD τ sig Unit) := by
  unfold tallyAt; refine congrArg _ (Finsupp.ext fun u => ?_); cases u
  rw [Pipeline.launchCredit_owing, Finsupp.single_eq_same, Finset.sum_congr rfl fun d _ => owed_r d c t,
    Finset.sum_ite_eq' Finset.univ (tp t c) fun _ => Nt t, if_pos (Finset.mem_univ _)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (px 1 c) fun _ => 1, Finset.sum_ite_eq' Finset.univ (px 2 c) fun _ => 1, Finset.sum_ite_eq' Finset.univ (px 4 c) fun _ => 1,
    if_pos (Finset.mem_univ _), if_pos (Finset.mem_univ _), if_pos (Finset.mem_univ _)]

/-- The credits device `c` collects. -/
def Creds (c : Dev nD) : sProp 𝕄 :=
  iprop(cred (tallyAt (barCell c) () 3) ∗ bigSep Finset.univ fun t : Fin 12 => cred (tallyAt (rCell t c) () (Nt t)))

omit [FloatOps F] in
theorem creds (c : Dev nD) : (Pipeline.launchCred O₀ c : sProp 𝕄) ⊢ Creds (F := F) c := by
  unfold Pipeline.launchCred Creds
  rw [bigSep_univ_at _ (SemLoc.reg barS), launch_bar]
  refine sep_mono_right ?_
  have hs : (Finset.univ.map ⟨rS, rS_inj⟩ : Finset (SemLoc sig)) ⊆ Finset.univ.erase (SemLoc.reg barS) := fun x hx => by
    obtain ⟨t, -, rfl⟩ := Finset.mem_map.mp hx
    exact Finset.mem_erase.mpr ⟨rS_ne_bar t, Finset.mem_univ _⟩
  refine (BI.bigSep_subset hs).trans ?_
  rw [bigSep_map]
  exact bigSep_mono fun t _ => Entails.of_eq (congrArg (fun x => cred x) (launch_r t c))

/-! ## The records, and each device's share -/

variable (w0 : Fin 2 → Dev nD → ℕ → Fin 512 → Elt F .bf16)

/-- What every device may consult. -/
def records (κ : GSem nD τ sig → ℕ) : sProp 𝕄 :=
  iprop((bigSep (barCells ∪ ownCells) fun g => cellInv ER (Rd w0) (κ g) g) ∗ bigSep barCells fun g => reached ER g 0)

instance records_persistent (κ : GSem nD τ sig → ℕ) : BI.Persistent (records w0 κ) := by unfold records; infer_instance

theorem rec_inv (κ : GSem nD τ sig → ℕ) {g : GSem nD τ sig} (hg : g ∈ (barCells ∪ ownCells : Finset (GSem nD τ sig))) :
    records w0 κ ⊢ cellInv ER (Rd w0) (κ g) g := by
  unfold records; iintro ⟨H, -⟩
  iapply (elem_of hg : (bigSep (barCells ∪ ownCells) fun g => (cellInv ER (Rd w0) (κ g) g : sProp 𝕄)) ⊢ _) $$ H
theorem rec_bar (κ : GSem nD τ sig → ℕ) (c : Dev nD) : records w0 κ ⊢ reached ER (barCell c) 0 := by
  unfold records; iintro ⟨-, H⟩
  iapply (elem_of (Finset.mem_map_of_mem barEmb (Finset.mem_univ c)) : (bigSep barCells fun g => (reached ER g 0 : sProp 𝕄)) ⊢ _) $$ H

omit [FloatOps F] in
/-- A family of facts from a persistent one. -/
theorem each_of {ι : Type} [Fintype ι] [DecidableEq ι] {R : sProp 𝕄} [BI.Persistent R] {Φ : ι → sProp 𝕄} (h : ∀ i, R ⊢ Φ i) : R ⊢ bigSep Finset.univ Φ := by
  have h0 : R ⊢ iprop(R ∗ bigSep Finset.univ fun _ : ι => (iprop(emp) : sProp 𝕄)) := by
    rw [show (bigSep Finset.univ fun _ : ι => (iprop(emp) : sProp 𝕄)) = iprop(emp) from BI.bigSep_emp_const _]
    iintro H; isplitl [H]; · iexact H
    iempintro
  have h1 (i : ι) : iprop(R ∗ emp) ⊢ Φ i := by iintro ⟨H, -⟩; iapply (h i); iexact H
  exact h0.trans (bigSep_with_persistent fun i _ => h1 i)

theorem rec_invs (κ : GSem nD τ sig → ℕ) (c : Dev nD) : records w0 κ ⊢ invs w0 κ c := by
  have h1 : records w0 κ ⊢ bigSep Finset.univ fun d : Fin 3 => iprop(cellInv ER (Rd w0) (κ (barCell (px (bm d) c))) (barCell (px (bm d) c)) ∗ reached ER (barCell (px (bm d) c)) 0) :=
    each_of fun d => by
      iintro #H
      isplitr; · iapply (rec_inv w0 κ (bar_mem (px (bm d) c))); iexact H
      iapply (rec_bar w0 κ (px (bm d) c)); iexact H
  have h2 : records w0 κ ⊢ bigSep Finset.univ fun t : Fin 12 => iprop(cellInv ER (Rd w0) (κ (sCell t c)) (sCell t c) ∗ cellInv ER (Rd w0) (κ (rCell t c)) (rCell t c)
        ∗ cellInv ER (Rd w0) (κ (rCell t (tp t c))) (rCell t (tp t c))) :=
    each_of fun t => by
      iintro #H
      isplitr; · iapply (rec_inv w0 κ (s_mem t c)); iexact H
      isplitr; · iapply (rec_inv w0 κ (r_mem t c)); iexact H
      iapply (rec_inv w0 κ (r_mem t (tp t c))); iexact H
  unfold invs
  iintro #H
  isplitr; · iapply (rec_inv w0 κ (bar_mem c)); iexact H
  isplitr; · iapply h1; iexact H
  iapply h2; iexact H

/-- The rights to open device `c`'s send and receive cells. -/
def Opens (c : Dev nD) : sProp 𝕄 := bigSep Finset.univ fun t : Fin 12 => iprop(openTok ER (sCell t c) ∗ openTok ER (rCell t c))

/-- What device `c` carries from the launch to the kernel. -/
def Tk (c : Dev nD) : sProp 𝕄 :=
  iprop((∃ κ, invs w0 κ c) ∗ Opens (F := F) c ∗ barToks (F := F) c ∗ dmaToks (F := F) c ∗ atPos ER (barCell c) 0 ∅ 0 ∗ Creds (F := F) c)

/-- One transfer's cells opened. -/
theorem open_t (κ : GSem nD τ sig → ℕ) (c : Dev nD) (t : Fin 12) :
    iprop(invs w0 κ c ∗ ((openTok ER (sCell t c) ∗ openTok ER (rCell t c)) ∗ (semVal (sCell t c) 0 ∗ semVal (rCell t c) 0)
        ∗ (dutyTok ER (sCell t c) 0 (0 : Fin 3) ∗ dutyTok ER (rCell t (tp t c)) 0 (0 : Fin 3)) ∗ cred (tallyAt (rCell t c) () (Nt t))))
      ⊢ (iprop(|={Set.univ}=> (Init (F := F) c t ∗ reached ER (rCell t c) 0)) : sProp 𝕄) := by
  iintro ⟨#HI, ⟨HoS, HoR⟩, ⟨HvS, HvR⟩, ⟨HtS, HtR⟩, Hc⟩
  ihave HI' := (invs_t w0 κ c t) $$ HI
  icases HI' with ⟨#HIs, #HIr, #HIp⟩
  imod (Rounds.cell_open ER (Rd w0) (g := sCell t c) (Set.mem_univ (κ (sCell t c)))) $$ [HoS HvS] with ⟨HaS, #HrS⟩
  · isplitr; · iexact HIs
    isplitl [HoS]; · iexact HoS
    iexact HvS
  imod (Rounds.cell_open ER (Rd w0) (g := rCell t c) (Set.mem_univ (κ (rCell t c)))) $$ [HoR HvR] with ⟨HaR, #HrR⟩
  · isplitr; · iexact HIr
    isplitl [HoR]; · iexact HoR
    iexact HvR
  imodintro
  isplitl [HtS HtR HaS HaR Hc]
  · unfold Init
    isplitl [HtS]; · iexact HtS
    isplitr; · iexact HrS
    isplitl [HtR]; · iexact HtR
    isplitl [HaS]; · iexact HaS
    isplitl [HaR]; · iexact HaR
    iexact Hc
  iexact HrR

end Cert.KernelIdealProof

end
-- ==== Proof.KernelIdeal.Launch.lean ====
/-
The run: from any memory with every semaphore at zero, the eight devices terminate, the arguments as they were, the result the finished
rows, every semaphore at zero.
-/
module

public import proofs.«01_k».proof.Proof.KernelIdeal.Region
public import proofs.«01_k».proof.Proof.KernelIdeal.Deal

@[expose] public section

noncomputable section

namespace Cert.KernelIdealProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's region -/

abbrev V₀ (c : Dev nD) : Valuation τ sig (Elt F) := fun b => m ((c : Dev nD), b)
/-- When the kernel starts, -/
abbrev V₁ (c : Dev nD) : Valuation τ sig (Elt F) := StableHlo.after hostOps0 (V₀ m c)
/-- and when it has ended. -/
def V₂ (c : Dev nD) : Valuation τ sig (Elt F) := Function.update (V₁ m c) (Proc.devRef .tc main_v45) ((dat0 m c).arrAt 8 cfg0.N)

abbrev TkI (c : Dev nD) : sProp 𝕄 := Tk (start0 (Iof m)) c
def Xk (c : Dev nD) : sProp 𝕄 := iprop((∃ K, Ghost (Iof m) K c) ∗ levAts L lv)
def Yk (c : Dev nD) : sProp 𝕄 := semVal (barCell c) 0

omit [FloatOps F] in
theorem ownSems_sum (c : Dev nD) :
    (Pipeline.ownSems0 osem c : sProp 𝕄) = bigSep Finset.univ fun t : Fin 12 => iprop(semVal (sCell t c) 0 ∗ semVal (rCell t c) 0) := by
  unfold Pipeline.ownSems0
  exact own_sum c fun g => semVal g 0

theorem hopen (c : Dev nD) : iprop(TkI m c ∗ Pipeline.ownSems0 osem c ∗ levAts L lv) ⊢ (iprop(|={Set.univ}=> Xk m c) : sProp 𝕄) := by
  rw [ownSems_sum]
  unfold TkI Tk Xk Opens dmaToks Creds barToks
  iintro ⟨⟨⟨%κ, #HI⟩, Ho, Hb, Hd, Hat, Hcb, Hcr⟩, Hv, #Hlev⟩
  ihave H1 := (Entails.of_eq (bigSep_sep' Finset.univ _ _).symm) $$ [Hd Hcr]
  · isplitl [Hd]; · iexact Hd
    iexact Hcr
  ihave H2 := (Entails.of_eq (bigSep_sep' Finset.univ _ _).symm) $$ [Hv H1]
  · isplitl [Hv]; · iexact Hv
    iexact H1
  ihave H3 := (Entails.of_eq (bigSep_sep' Finset.univ _ _).symm) $$ [Ho H2]
  · isplitl [Ho]; · iexact Ho
    iexact H2
  ihave H4 := (bigSep_with_persistent (S := Finset.univ) (R := invs (start0 (Iof m)) κ c) fun (t : Fin 12) _ => open_t (start0 (Iof m)) κ c t) $$ [H3]
  · isplitr; · iexact HI
    iexact H3
  imod (bigSep_fupd Finset.univ fun t : Fin 12 => iprop(Init (F := F) c t ∗ reached ER (rCell t c) 0)) $$ H4 with H5
  ihave H6 := (Entails.of_eq (bigSep_sep' Finset.univ _ _)) $$ H5
  icases H6 with ⟨Hin, Hown⟩
  imodintro
  isplitl
  · iexists κ
    unfold Ghost Own
    isplitr; · iexact HI
    isplitl [Hown]; · iexact Hown
    isplitl [Hin]; · rw [inits_sum]; iexact Hin
    isplitl [Hb]; · iapply (Entails.of_eq (three_sum _)) $$ Hb
    isplitl [Hat]; · iexact Hat
    iexact Hcb
  iexact Hlev

theorem inv_0 (c : Dev nD) : (pdats m 0 c).Φ 0 = Pre m c := by
  show (if ((0 : Fin (cfg0.N + 1)).val = 0) then Pre m c else Post c) = _; exact if_pos rfl
theorem inv_N (c : Dev nD) : (pdats m 0 c).Φ (Fin.last _) = Post c := by
  show (if (Fin.last cfg0.N).val = 0 then Pre m c else Post c) = _
  rw [Fin.val_last, if_neg (by rw [show cfg0.N = 1 from N_0]; decide)]
theorem owed_0 (c : Dev nD) : (pdats m 0 c).owed 0 = O₀ c := by
  show (if ((0 : Fin (cfg0.N + 1)).val = 0) then O₀ c else 0) = _; exact if_pos rfl
theorem owed_N (c : Dev nD) : (pdats m 0 c).owed (Fin.last _) = 0 := by
  show (if (Fin.last cfg0.N).val = 0 then O₀ c else 0) = _
  rw [Fin.val_last, if_neg (by rw [show cfg0.N = 1 from N_0]; decide)]
theorem stage_low : ∀ (w : Fin 9) (s : Fin (win0 w).nbuf), lvOf (.dma ((win0 w).sem s)) = 0 := by decide

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [inv_0,
    show (Pipeline.scopedRest (Ix := Unit) (Name := ℕ) (U := UU) (Lvl := ℕ) (Val := Elt F) (Pipeline.pin (pcfgs (F := F)) adm 0).spec c : sProp 𝕄) = Scr (F := F) c from
      scopedRest0_eq c]
  unfold Xk Pre
  iintro ⟨Hs, Hp, -, HK, #Hlev⟩
  isplitl [HK]; · iexact HK
  isplitr; · iexact Hlev
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [inv_N,
    show (Pipeline.scopedRest (Ix := Unit) (Name := ℕ) (U := UU) (Lvl := ℕ) (Val := Elt F) (Pipeline.pin (pcfgs (F := F)) adm 0).spec c : sProp 𝕄) = Scr (F := F) c from
      scopedRest0_eq c, ownSems_sum,
    show (StableHlo.held (c.tc : Thread nD τ) ∅ (V₂ m c) : sProp 𝕄) = iprop(emp) from BI.bigSep_empty]
  unfold Post Left Yk
  rw [dones_sum]
  unfold Done
  iintro ⟨⟨Hd, Hb⟩, Hs, Hp⟩
  isplitl [Hs]; · iexact Hs
  isplitl [Hp]; · iexact Hp
  isplitr; · iempintro
  isplitl [Hd]; · iexact Hd
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases O₀_pos h with ⟨t, rfl⟩ | ⟨b, rfl⟩
    · exact ⟨by rw [L_tc]; exact Finset.mem_singleton_self _, by show 0 < lvOf (rS t); rw [lvOf_r]; omega⟩
    · exact ⟨by rw [L_tc]; exact Finset.mem_singleton_self _, Nat.one_pos⟩
  · exact absurd h (Nat.lt_irrefl 0)

abbrev Ar : Finset (DevRef τ sig) := Pipeline.arrRefs (τ := τ) spec0
abbrev Un : Finset (DevRef τ sig) := Pipeline.ucRefs τ sig
theorem Ar_sub : (Ar : Finset (DevRef τ sig)) ⊆ Un := Pipeline.arrRefs_sub_ucRefs spec0 (by decide)
theorem out_mem : (Proc.devRef .tc main_v45 : DevRef τ sig) ∈ Ar :=
  Finset.mem_map_of_mem _ (Finset.mem_image.mpr ⟨(8 : Fin 9), Finset.mem_univ _, rfl⟩)

theorem V₂_ne (c : Dev nD) (b : DevRef τ sig) (h : b ≠ Proc.devRef .tc main_v45) : V₂ m c b = V₁ m c b := Function.update_of_ne h _ _
theorem V₂_out (c : Dev nD) : V₂ m c (Proc.devRef .tc main_v45) = (dat0 m c).arrAt 8 cfg0.N := Function.update_self _ _ _

theorem ends_in (c : Dev nD) (w : Fin cfg0.W) (hi : (cfg0.win w).isOut = false) (hn : Pipeline.arrRef spec0 w ≠ main_v45) :
    (dat0 m c).arrAt w cfg0.N = V₂ m c (Proc.devRef .tc (Pipeline.arrRef spec0 w)) :=
  ((dat0 m c).arrAt_in w hi _).trans (V₂_ne m c (Proc.devRef .tc (Pipeline.arrRef spec0 w)) (StableHlo.devRef_ne_of_ne hn)).symm
theorem ends (c : Dev nD) (w : Fin cfg0.W) : (dat0 m c).arrAt w cfg0.N = V₂ m c (Proc.devRef .tc (Pipeline.arrRef spec0 w)) := by
  by_cases h : w = (8 : Fin 9)
  · subst h; exact (V₂_out m c).symm
  · have hh : ∀ w : Fin 9, w ≠ 8 → (win0 w).isOut = false ∧ Pipeline.arrRef spec0 w ≠ main_v45 := by decide
    exact ends_in m c w (hh w h).1 (hh w h).2

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem (by decide : Pipeline.OwnSemFacts spec0 osem)
    ∅ (Un \ Ar) (Finset.empty_subset _) kitP rfl (fun c => (body_ob m c).loose)
    (fun _ => 0) O₀ (fun c => (owed_0 m c).trans (zero_add _).symm) (owed_N m)
    (fun _ => rfl) (fun c => (pdats m 0 c).share_full fun _ => rfl)
    (V₁ m) (V₂ m) (fun c b hb => V₂_ne m c b fun h => (Finset.mem_sdiff.mp (Finset.mem_sdiff.mp hb).1).2 (h ▸ out_mem))
    (TkI m) Yk (Xk m) Yk (hopen m) (hin m) (hout m)
    (fun c => by iintro H; imodintro; iexact H)
    (fun _ => 0)
    ⟨fun c w s => by rw [L_tc]; exact Finset.mem_singleton_self _, fun c w s => (stage_low w s).le, fun c t g i h => cut m c t g i h⟩
    (fun _ => iprop(emp))
    (fun _ _ => rfl) (fun c w => ends m c w)

/-! ## The host operations before it, and the two in order -/

/-- What a device carries through the host operations. -/
def Rest (c : Dev nD) : sProp 𝕄 := iprop(TkI m c ∗ (∃ r, prngReg c r) ∗ owesE c (O₀ c))

def hostSeg : ℍ :=
  Pipeline.HostSeg.ofOps _ _ _ _ _ Un hostOps0 (fun op h => Pipeline.sub_ucRefs op (List.forall_iff_forall_mem.mp hostOps0_sub op h))
    (fun op h => List.forall_iff_forall_mem.mp hostOps0_fresh op h) (V₀ m) (Rest m)

def segs : List (Pipeline.Seg (pcfgs (F := F)) adm (pdats m) () defs₀ 𝒱₀ L lv) := [.host (hostSeg m), .region (reg m)]

theorem main_run (c : Dev nD) : main (F := F) c = Pipeline.Seg.run (segs m) := main_segs adm (pdats m) () 𝒱₀ L lv (hostSeg m) (reg m) rfl c

theorem reg_pre (c : Dev nD) : iprop(StableHlo.held (c.tc : Thread nD τ) Un (V₁ m c) ∗ Rest m c) ⊢ (reg m).pre c := by
  show _ ⊢ iprop(StableHlo.held (c.tc : Thread nD τ) Ar (V₁ m c) ∗ (∃ r, prngReg c r)
    ∗ (StableHlo.held (c.tc : Thread nD τ) (Un \ Ar) (V₁ m c) ∗ emp) ∗ TkI m c ∗ ∃ Wd, owes (c : Thread nD τ) (0 + O₀ c) Wd)
  rw [StableHlo.held_sub_split (c.tc : Thread nD τ) Ar_sub, zero_add]
  unfold Rest owesE
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What a device holds at the end. -/
abbrev Tₙ (c : Dev nD) : sProp 𝕄 := iprop(StableHlo.held (c.tc : Thread nD τ) Un (V₂ m c) ∗ semVal (barCell c) 0)

theorem reg_post (c : Dev nD) : (reg m).post c ⊢ iprop(Tₙ m c ∗ ∃ W, owes (c : Thread nD τ) (0 : CellTallies nD τ sig Unit) W) := by
  show iprop(StableHlo.held (c.tc : Thread nD τ) Ar (V₂ m c) ∗ (∃ r, prngReg c r)
    ∗ (StableHlo.held (c.tc : Thread nD τ) (Un \ Ar) (V₂ m c) ∗ emp) ∗ Yk c ∗ ∃ Wd, owes (c : Thread nD τ) (0 : CellTallies nD τ sig Unit) Wd) ⊢ _
  dsimp only [Tₙ]
  rw [StableHlo.held_sub_split (c.tc : Thread nD τ) Ar_sub]
  unfold Yk
  iintro ⟨Ha, -, ⟨Hr, -⟩, Hb, HO⟩
  isplitr [HO]
  · isplitl [Ha Hr]
    · isplitl [Ha]; · iexact Ha
      iexact Hr
    iexact Hb
  iexact HO

/-! ## The launch -/

def u₀ : UU :=
  (initOf (Pipeline.cells (Pipeline.pin (pcfgs (F := F)) adm) cellOf_inj) (Pipeline.launchToks (Pipeline.pin (pcfgs (F := F)) adm) cellOf_inj),
    launchOf barCells ownCells toks)

/-- The protocol's launch state, kept by device 0 until all are dealt theirs. -/
def G (c : Dev nD) : sProp 𝕄 := if c = 0 then BI.own (ER (launchOf barCells ownCells toks)) else iprop(emp)

omit [FloatOps F] in
theorem G_sum : bigSep Finset.univ (G (F := F)) = BI.own (ER (launchOf barCells ownCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c.tc : Thread nD τ) Un (V₀ m c) ∗ Rest m c)

/-- A device's holdings that are its own from the start. -/
def Mine (c : Dev nD) : sProp 𝕄 :=
  iprop(StableHlo.held (c.tc : Thread nD τ) Un (V₀ m c) ∗ Creds (F := F) c ∗ owes (c : Thread nD τ) (O₀ c) ∅ ∗ ∃ r, prngReg c r)

theorem start_of (κ : GSem nD τ sig → ℕ) (c : Dev nD) :
    iprop(records (start0 (Iof m)) κ ∗ (Opens (F := F) c ∗ barToks (F := F) c ∗ dmaToks (F := F) c ∗ atPos ER (barCell c) 0 ∅ 0 ∗ Mine m c)) ⊢ T₀ m c := by
  unfold Mine T₀ Rest TkI Tk owesE
  iintro ⟨#HR, Ho, Hb, Hd, Hat, Hh, Hc, HO, Hp⟩
  isplitl [Hh]; · iexact Hh
  isplitl [Ho Hb Hd Hat Hc]
  · isplitr
    · iexists κ; iapply (rec_invs (start0 (Iof m)) κ c); iexact HR
    isplitl [Ho]; · iexact Ho
    isplitl [Hb]; · iexact Hb
    isplitl [Hd]; · iexact Hd
    isplitl [Hat]; · iexact Hat
    iexact Hc
  isplitl [Hp]; · iexact Hp
  iexists ∅; iexact HO

theorem unscoped_bar : ∀ sm : SemLoc sig, sm.isScoped .tc = false → sm = .reg barS := by decide

omit [FloatOps F] in
theorem unscoped_sems (c : Dev nD) : (unscopedSems0 c : sProp 𝕄) ⊢ semVal (barCell c) 0 := by
  unfold unscopedSems0
  exact bigSep_elim (Finset.mem_filter.mpr ⟨Finset.mem_univ (SemLoc.reg barS), by decide⟩)

theorem deal_one (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(Mine m c ∗ semVal (barCell c) 0 ∗ G c) : sProp 𝕄) := by
  rw [show unscopedBufs c (fun b => m ((c : Thread nD τ).loc b)) = StableHlo.held (c.tc : Thread nD τ) Un (V₀ m c) from
    Pipeline.unscopedBufs_held c (V₀ m c)]
  unfold Mine
  iintro ⟨Hh, Hs, HO, Hcr, Hp, HG⟩
  ihave Hc := (creds (F := F) c) $$ Hcr
  ihave Hv := (unscoped_sems (F := F) c) $$ Hs
  isplitl [Hh Hc HO Hp]
  · isplitl [Hh]; · iexact Hh
    isplitl [Hc]; · iexact Hc
    isplitl [HO]; · iexact HO
    iexists (ρ c); iexact Hp
  isplitl [Hv]; · iexact Hv
  iexact HG

theorem deal_all : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(Mine m c ∗ semVal (barCell c) 0 ∗ G c) : sProp 𝕄) :=
  bigSep_mono fun c _ => deal_one m ρ c

omit [FloatOps F] in
theorem apart {Φ Ψ : Dev nD → sProp 𝕄} :
    bigSep Finset.univ (fun c => iprop(Φ c ∗ Ψ c)) ⊢ iprop(bigSep Finset.univ Φ ∗ bigSep Finset.univ Ψ) := Entails.of_eq (bigSep_sep _ _ _)
omit [FloatOps F] in
theorem together {Φ Ψ : Dev nD → sProp 𝕄} :
    iprop(bigSep Finset.univ Φ ∗ bigSep Finset.univ Ψ) ⊢ bigSep Finset.univ (fun c => iprop(Φ c ∗ Ψ c)) := Entails.of_eq (bigSep_sep _ _ _).symm

theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H1 := (deal_all m ρ) $$ H
  ihave H2 := apart $$ H1; icases H2 with ⟨HM, H3⟩
  ihave H4 := apart $$ H3; icases H4 with ⟨Hv, HG⟩
  ihave Hv' := (Entails.of_eq (barCells_sum (F := F) fun g => semVal g 0).symm) $$ Hv
  ihave HG' := (Entails.of_eq (G_sum (F := F))) $$ HG
  imod (Rounds.fund_launch ER (Rd (start0 (Iof m))) cells_disjoint (fun g _ h => h) toks) $$ [Hv' HG'] with ⟨%κ, -, #Hinv, #Hr, Hat, Hopen, Htok⟩
  · isplitl [Hv']; · iexact Hv'
    iexact HG'
  ihave Hat' := (Entails.of_eq (barCells_sum (F := F) fun g => atPos ER g 0 ∅ 0)) $$ Hat
  ihave Hopen' := (Entails.of_eq (ownCells_sum (F := F) fun g => openTok ER g)) $$ Hopen
  ihave Htok' := (Entails.of_eq (toks_deal (F := F))) $$ Htok
  icases Htok' with ⟨Htb, Htd⟩
  imodintro
  iapply (bigSep_with_persistent (R := records (start0 (Iof m)) κ)
    (Φ := fun c => iprop(Opens (F := F) c ∗ barToks (F := F) c ∗ dmaToks (F := F) c ∗ atPos ER (barCell c) 0 ∅ 0 ∗ Mine m c)) fun c _ => start_of m κ c)
  isplitr
  · unfold records
    isplitr; · iexact Hinv
    iexact Hr
  iapply together
  isplitl [Hopen']; · iexact Hopen'
  iapply together
  isplitl [Htb]; · iexact Htb
  iapply together
  isplitl [Htd]; · iexact Htd
  iapply together
  isplitl [Hat']; · iexact Hat'
  iexact HM

/-! ## The run -/

abbrev Seen : Finset (DevRef τ sig) :=
  [(Proc.devRef .tc main_arg0 : DevRef τ sig), Proc.devRef .tc main_arg1, Proc.devRef .tc main_arg2, Proc.devRef .tc main_arg3, Proc.devRef .tc main_arg4, Proc.devRef .tc main_v45].toFinset
theorem Seen_sub : (Seen : Finset (DevRef τ sig)) ⊆ Un := by
  intro b hb
  simp only [Seen, List.mem_toFinset, List.mem_cons, List.not_mem_nil, or_false] at hb
  rcases hb with rfl | rfl | rfl | rfl | rfl | rfl <;> exact Finset.mem_filter.mpr ⟨StableHlo.devRef_mem_tcRefs _, by simp [*]⟩
omit [FloatOps F] in
theorem seen_sum (c : Dev nD) (W : Valuation τ sig (Elt F)) : (StableHlo.held (c.tc : Thread nD τ) Seen W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3)
      ∗ ((c : Thread nD τ).loc main_arg4 ↦{fullShare} W main_arg4) ∗ ((c : Thread nD τ).loc main_v45 ↦{fullShare} W main_v45)) := by
  unfold StableHlo.held
  rw [bigSep_eq_bigSepL_of_eq _ rfl (by decide)]
  simp only [bigSepL_cons_cons, bigSepL_singleton]
  rfl

set_option backward.isDefEq.respectTransparency.types false in
theorem run_held : θ_run defs (onTc (τ := τ) (main (F := F))) ⟨m, fun _ => 0, ρ⟩
    (fun r => (∀ c : Dev nD, r.2.mem ((c : Thread nD τ).loc main_arg0) = V₂ m c main_arg0 ∧ r.2.mem ((c : Thread nD τ).loc main_arg1) = V₂ m c main_arg1
        ∧ r.2.mem ((c : Thread nD τ).loc main_arg2) = V₂ m c main_arg2 ∧ r.2.mem ((c : Thread nD τ).loc main_arg3) = V₂ m c main_arg3
        ∧ r.2.mem ((c : Thread nD τ).loc main_arg4) = V₂ m c main_arg4 ∧ r.2.mem ((c : Thread nD τ).loc main_v45) = V₂ m c main_v45) ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_sum]; iexact HX)
    (T₀ := T₀ m) (Tₙ := Tₙ m)
    (hch := ⟨fun c => .rfl, fun c => reg_pre m c, fun c => reg_post m c⟩)
    (hinit := deal m ρ)
    (QY := fun c s => (s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_arg3) = V₂ m c main_arg3
        ∧ s.mem ((c : Thread nD τ).loc main_arg4) = V₂ m c main_arg4 ∧ s.mem ((c : Thread nD τ).loc main_v45) = V₂ m c main_v45) ∧ s.sem (barCell c) = 0)
    (hfin := fun c s' => by
      dsimp only [Tₙ]; rw [StableHlo.held_sub_split (c.tc : Thread nD τ) Seen_sub, seen_sum]
      iintro ⟨⟨⟨⟨H0, H1, H2, H3, H4, H5⟩, -⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => (h c).1, sem_eq_zero hs fun c sm hsm => by
      obtain rfl := unscoped_bar sm hsm
      exact (h c).2⟩)

/-! ## What the arrays hold -/

section Ends
variable (c : Dev nD)
theorem end_arg0 : V₂ m c main_arg0 = m ((c : Thread nD τ).loc main_arg0) := (V₂_ne m c _ (StableHlo.devRef_ne_of_ne (by decide))).trans (V_main_arg0 m c)
theorem end_arg1 : V₂ m c main_arg1 = m ((c : Thread nD τ).loc main_arg1) := (V₂_ne m c _ (StableHlo.devRef_ne_of_ne (by decide))).trans (V_main_arg1 m c)
theorem end_arg2 : V₂ m c main_arg2 = m ((c : Thread nD τ).loc main_arg2) := (V₂_ne m c _ (StableHlo.devRef_ne_of_ne (by decide))).trans (V_main_arg2 m c)
theorem end_arg3 : V₂ m c main_arg3 = m ((c : Thread nD τ).loc main_arg3) := (V₂_ne m c _ (StableHlo.devRef_ne_of_ne (by decide))).trans (V_main_arg3 m c)
theorem end_arg4 : V₂ m c main_arg4 = m ((c : Thread nD τ).loc main_arg4) := (V₂_ne m c _ (StableHlo.devRef_ne_of_ne (by decide))).trans (V_main_arg4 m c)
end Ends

end Cert.KernelIdealProof

end
-- ==== Proof.KernelIdeal.Out.lean ====
/- What the arrays of `KernelIdeal` hold after the run: the arguments as they were, the result every device's finished rows. -/
module

public import proofs.«01_k».proof.Proof.KernelIdeal.Launch
public import Idealize.ShloMosaic.Lib.Pipeline.ValueKit.Geometry

@[expose] public section

noncomputable section

namespace Cert.KernelIdealProof

open Cert.KernelIdeal Cert.KernelIdeal.Gen
open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- The result array ends as what the body left in its staging buffer. -/
theorem out_val (c : Dev nD) : V₂ m c (Proc.devRef .tc main_v45) = outC (start0 (Iof m)) := by
  rw [V₂_out]
  refine (dat0 m c).arrAt_eq_of_after_last 8 t0_0 (by decide +kernel) _ fun j => ?_
  rfl

/-! The operands as the kernel finds them are the arrays the host operations left. -/

theorem in_x (c : Dev nD) : (Iof m c).x = V m c main_v1 := by
  funext i
  show V m c main_v1 (((cfg0.win 0).blk t0_0).view.emb i) = _
  refine congrArg (V m c main_v1) (funext fun a => Fin.ext ?_)
  exact Pipeline.Window.rect_emb_val_of_index_zero (cfg0.win 0) t0_0 a (by rfl) i
theorem in_wq (c : Dev nD) : (Iof m c).wq = V m c main_arg1 := by
  funext i
  show V m c main_arg1 (((cfg0.win 1).blk t0_0).view.emb i) = _
  refine congrArg (V m c main_arg1) (funext fun a => Fin.ext ?_)
  exact Pipeline.Window.rect_emb_val_of_index_zero (cfg0.win 1) t0_0 a (by rfl) i
theorem in_wk (c : Dev nD) : (Iof m c).wk = V m c main_arg2 := by
  funext i
  show V m c main_arg2 (((cfg0.win 2).blk t0_0).view.emb i) = _
  refine congrArg (V m c main_arg2) (funext fun a => Fin.ext ?_)
  exact Pipeline.Window.rect_emb_val_of_index_zero (cfg0.win 2) t0_0 a (by rfl) i
theorem in_wv (c : Dev nD) : (Iof m c).wv = V m c main_arg3 := by
  funext i
  show V m c main_arg3 (((cfg0.win 3).blk t0_0).view.emb i) = _
  refine congrArg (V m c main_arg3) (funext fun a => Fin.ext ?_)
  exact Pipeline.Window.rect_emb_val_of_index_zero (cfg0.win 3) t0_0 a (by rfl) i
theorem in_wo (c : Dev nD) : (Iof m c).wo = V m c main_arg4 := by
  funext i
  show V m c main_arg4 (((cfg0.win 4).blk t0_0).view.emb i) = _
  refine congrArg (V m c main_arg4) (funext fun a => Fin.ext ?_)
  exact Pipeline.Window.rect_emb_val_of_index_zero (cfg0.win 4) t0_0 a (by rfl) i
theorem in_cs (c : Dev nD) : (Iof m c).cs = V m c main_v29 := by
  funext i
  show V m c main_v29 (((cfg0.win 5).blk t0_0).view.emb i) = _
  refine congrArg (V m c main_v29) (funext fun a => Fin.ext ?_)
  exact Pipeline.Window.rect_emb_val_of_index_zero (cfg0.win 5) t0_0 a (by rfl) i
theorem in_sn (c : Dev nD) : (Iof m c).sn = V m c main_v32 := by
  funext i
  show V m c main_v32 (((cfg0.win 6).blk t0_0).view.emb i) = _
  refine congrArg (V m c main_v32) (funext fun a => Fin.ext ?_)
  exact Pipeline.Window.rect_emb_val_of_index_zero (cfg0.win 6) t0_0 a (by rfl) i
theorem in_p (c : Dev nD) : (Iof m c).p = V m c main_v44 := by
  funext i
  show V m c main_v44 (((cfg0.win 7).blk t0_0).view.emb i) = _
  refine congrArg (V m c main_v44) (funext fun a => Fin.ext ?_)
  exact Pipeline.Window.rect_emb_val_of_index_zero (cfg0.win 7) t0_0 a (by rfl) i

/-- THE RUN: every device ends with the finished rows of the whole mesh in its result, its arguments as they were, all counters at zero. -/
theorem run (ρ : Dev nD → PrngReg) : θ_run defs (onTc (τ := τ) (main (F := F))) ⟨m, fun _ => 0, ρ⟩
    (fun r => (∀ c : Dev nD, r.2.mem ((c : Thread nD τ).loc main_v45) = outC (start0 (Iof m))
        ∧ r.2.mem ((c : Thread nD τ).loc main_arg0) = m ((c : Thread nD τ).loc main_arg0) ∧ r.2.mem ((c : Thread nD τ).loc main_arg1) = m ((c : Thread nD τ).loc main_arg1)
        ∧ r.2.mem ((c : Thread nD τ).loc main_arg2) = m ((c : Thread nD τ).loc main_arg2) ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun r h => ⟨fun c => by
    obtain ⟨h0, h1, h2, h3, h4, h5⟩ := h.1 c
    exact ⟨h5.trans (out_val m c), h0.trans (end_arg0 m c), h1.trans (end_arg1 m c), h2.trans (end_arg2 m c), h3.trans (end_arg3 m c), h4.trans (end_arg4 m c)⟩,
    h.2⟩) (run_held m ρ)

end Cert.KernelIdealProof

end
-- ==== Proof.Value.Head.lean ====
/-
One head of the kernel's attention at an index, and the partial result of a device as a sum over the columns of its heads.
-/
module

public import proofs.«01_k».proof.Proof.KernelIdeal.Body
public import Idealize.ShloMosaic.Lib.Pointwise

@[expose] public section

noncomputable section

namespace Cert.Val

open Cert.KernelIdeal Cert.KernelIdeal.Gen Cert.KernelIdealProof
open Idealize.ShloMosaic
open scoped BigOperators

/-- One head: the columns from `o` on. -/
def headT (o : ℕ) (h : S1024x1024.Slices ![0, o] S1024x128) (q k v : FVec Ideal S1024x1024 .bf16) : FVec Ideal S1024x128 .bf16 :=
  truncf .bf16
    (divf
      (matmul dot_S1024x1024_S1024x128_S1024x128_1_0_0_1_n_n none
        (truncf .bf16 (exp (matmul dot_S1024x128_S1024x128_S1024x1024_1_1_0_0_n_n none (extractStridedSlice S1024x128 ![0, o] q h)
          (extractStridedSlice S1024x128 ![0, o] k h) (constant S1024x1024 .f32 0x00000000#32))) bitsLt_bf16_f32)
        (extractStridedSlice S1024x128 ![0, o] v h) (constant S1024x128 .f32 0x00000000#32))
      (broadcastTo S1024x128
        (shapeCast S1024x1
          (multiReduction .add [1] S1024
            (exp (matmul dot_S1024x128_S1024x128_S1024x1024_1_1_0_0_n_n none (extractStridedSlice S1024x128 ![0, o] q h)
              (extractStridedSlice S1024x128 ![0, o] k h) (constant S1024x1024 .f32 0x00000000#32)))
            0x00000000#32 reduces_S1024x1024_S1024 (.inl rfl) rfl)
          shapeCasts_S1024_S1024x1)
        broadcasts_S1024x1_S1024x128))
    bitsLt_bf16_f32

/-- The partial result before it is cut in two. -/
def partT (q k v wo : FVec Ideal S1024x1024 .bf16) : FVec Ideal S1024x1024 .f32 :=
  matmul dot_S1024x1024_S1024x1024_S1024x1024_1_0_0_1_n_n none
    (concatenate S1024x1024 1
      [⟨S1024x128, headT 0 slices_S1024x1024_o0_0_S1024x128 q k v⟩, ⟨S1024x128, headT 128 slices_S1024x1024_o0_128_S1024x128 q k v⟩,
       ⟨S1024x128, headT 256 slices_S1024x1024_o0_256_S1024x128 q k v⟩, ⟨S1024x128, headT 384 slices_S1024x1024_o0_384_S1024x128 q k v⟩,
       ⟨S1024x128, headT 512 slices_S1024x1024_o0_512_S1024x128 q k v⟩, ⟨S1024x128, headT 640 slices_S1024x1024_o0_640_S1024x128 q k v⟩,
       ⟨S1024x128, headT 768 slices_S1024x1024_o0_768_S1024x128 q k v⟩, ⟨S1024x128, headT 896 slices_S1024x1024_o0_896_S1024x128 q k v⟩]
      concatenates_S1024x128_S1024x128_S1024x128_S1024x128_S1024x128_S1024x128_S1024x128_S1024x128_S1024x1024_d1)
    (shapeCast S1024x1024 wo shapeCasts_S1024x1024_S1024x1024) (constant S1024x1024 .f32 0x00000000#32)

theorem slab0_eq (I : Ins Ideal) : slab I 0 = shapeCast S1024x512 (truncf .bf16
    (extractStridedSlice S1024x512 ![0, 0] (partT (qS I) (kS I) (vS I) I.wo) slices_S1024x1024_o0_0_S1024x512) bitsLt_bf16_f32)
    shapeCasts_S1024x512_S1024x512 := rfl
theorem slab1_eq (I : Ins Ideal) : slab I 1 = shapeCast S1024x512 (truncf .bf16
    (extractStridedSlice S1024x512 ![0, 512] (partT (qS I) (kS I) (vS I) I.wo) slices_S1024x1024_o0_512_S1024x512) bitsLt_bf16_f32)
    shapeCasts_S1024x512_S1024x512 := rfl

theorem headT_apply (o : ℕ) (ho : o + 128 ≤ 1024) (h : S1024x1024.Slices ![0, o] S1024x128) (q k v : FVec Ideal S1024x1024 .bf16) (r : Fin 1024) (d : Fin 128) :
    headT o h q k v (ix2 r d) = Ideal.div
      (∑ s : Fin 1024, Ideal.exp (∑ e : Fin 128, q (ix2 r ⟨o + e.val, by omega⟩) * k (ix2 s ⟨o + e.val, by omega⟩)) * v (ix2 s ⟨o + d.val, by omega⟩))
      (∑ s : Fin 1024, Ideal.exp (∑ e : Fin 128, q (ix2 r ⟨o + e.val, by omega⟩) * k (ix2 s ⟨o + e.val, by omega⟩))) := by
  pointwise [headT]

/-- The head that holds column `n`, at column `e` of its 128. -/
def colOf (n : Fin 1024) (e : Fin 128) : Fin 1024 := ⟨128 * (n.val / 128) + e.val, by omega⟩

/-- The attention's result at row `r` and column `n` of the device's heads. -/
def ctxK (q k v : FVec Ideal S1024x1024 .bf16) (r n : Fin 1024) : EReal :=
  Ideal.div
    (∑ s : Fin 1024, Ideal.exp (∑ e : Fin 128, q (ix2 r (colOf n e)) * k (ix2 s (colOf n e))) * v (ix2 s n))
    (∑ s : Fin 1024, Ideal.exp (∑ e : Fin 128, q (ix2 r (colOf n e)) * k (ix2 s (colOf n e))))

theorem headT_col (o h' : ℕ) (ho : o = 128 * h') (h : S1024x1024.Slices ![0, o] S1024x128) (q k v : FVec Ideal S1024x1024 .bf16)
    (r n : Fin 1024) (hn : n.val / 128 = h') : headT o h q k v (ix2 r ⟨n.val % 128, Nat.mod_lt _ (by decide)⟩) = ctxK q k v r n := by
  have e1 : ∀ e : Fin 128, (⟨o + e.val, by omega⟩ : Fin 1024) = colOf n e := fun e => by
    apply Fin.ext; show o + e.val = 128 * (n.val / 128) + e.val; rw [hn, ho]
  have e2 : (⟨o + n.val % 128, by omega⟩ : Fin 1024) = n := by apply Fin.ext; show o + n.val % 128 = n.val; omega
  rw [headT_apply o (by omega)]
  unfold ctxK
  simp only [e1, e2]

theorem concat_apply (q k v : FVec Ideal S1024x1024 .bf16) (r n : Fin 1024) :
    concatenate S1024x1024 1
      [⟨S1024x128, headT 0 slices_S1024x1024_o0_0_S1024x128 q k v⟩, ⟨S1024x128, headT 128 slices_S1024x1024_o0_128_S1024x128 q k v⟩,
       ⟨S1024x128, headT 256 slices_S1024x1024_o0_256_S1024x128 q k v⟩, ⟨S1024x128, headT 384 slices_S1024x1024_o0_384_S1024x128 q k v⟩,
       ⟨S1024x128, headT 512 slices_S1024x1024_o0_512_S1024x128 q k v⟩, ⟨S1024x128, headT 640 slices_S1024x1024_o0_640_S1024x128 q k v⟩,
       ⟨S1024x128, headT 768 slices_S1024x1024_o0_768_S1024x128 q k v⟩, ⟨S1024x128, headT 896 slices_S1024x1024_o0_896_S1024x128 q k v⟩]
      concatenates_S1024x128_S1024x128_S1024x128_S1024x128_S1024x128_S1024x128_S1024x128_S1024x128_S1024x1024_d1 (ix2 r n) = ctxK q k v r n := by
  let f : Fin 8 → (S1024x128.Idx → Elt Ideal .bf16) := fun x => match x with
    | ⟨0, _⟩ => headT 0 slices_S1024x1024_o0_0_S1024x128 q k v
    | ⟨1, _⟩ => headT 128 slices_S1024x1024_o0_128_S1024x128 q k v
    | ⟨2, _⟩ => headT 256 slices_S1024x1024_o0_256_S1024x128 q k v
    | ⟨3, _⟩ => headT 384 slices_S1024x1024_o0_384_S1024x128 q k v
    | ⟨4, _⟩ => headT 512 slices_S1024x1024_o0_512_S1024x128 q k v
    | ⟨5, _⟩ => headT 640 slices_S1024x1024_o0_640_S1024x128 q k v
    | ⟨6, _⟩ => headT 768 slices_S1024x1024_o0_768_S1024x128 q k v
    | ⟨7, _⟩ => headT 896 slices_S1024x1024_o0_896_S1024x128 q k v
  have hf : ∀ x : Fin 8, n.val / 128 = x.val → f x (ix2 r ⟨n.val % 128, Nat.mod_lt _ (by decide)⟩) = ctxK q k v r n := fun x hx => by
    match x with
    | ⟨0, _⟩ => exact headT_col 0 0 rfl _ q k v r n hx
    | ⟨1, _⟩ => exact headT_col 128 1 rfl _ q k v r n hx
    | ⟨2, _⟩ => exact headT_col 256 2 rfl _ q k v r n hx
    | ⟨3, _⟩ => exact headT_col 384 3 rfl _ q k v r n hx
    | ⟨4, _⟩ => exact headT_col 512 4 rfl _ q k v r n hx
    | ⟨5, _⟩ => exact headT_col 640 5 rfl _ q k v r n hx
    | ⟨6, _⟩ => exact headT_col 768 6 rfl _ q k v r n hx
    | ⟨7, _⟩ => exact headT_col 896 7 rfl _ q k v r n hx
  refine Eq.trans ?_ (hf ⟨n.val / 128, by omega⟩ rfl)
  refine concatenate_ofFn_apply (t := S1024x1024) (s₁ := S1024x128) 1 f
    concatenates_S1024x128_S1024x128_S1024x128_S1024x128_S1024x128_S1024x128_S1024x128_S1024x128_S1024x1024_d1 rfl 128 rfl (ix2 r n)
    ⟨n.val / 128, by omega⟩ rfl (ix2 r ⟨n.val % 128, Nat.mod_lt _ (by decide)⟩) rfl fun b hb => ?_
  match b with
  | ⟨0, _⟩ => rfl
  | ⟨1, _⟩ => exact absurd rfl hb

theorem partT_apply (q k v wo : FVec Ideal S1024x1024 .bf16) (r n : Fin 1024) :
    partT q k v wo (ix2 r n) = ∑ l : Fin 1024, ctxK q k v r l * wo (ix2 l n) := by
  unfold partT
  have h := concat_apply q k v r
  generalize concatenate S1024x1024 1 _ _ = X at h ⊢
  pointwise
  simp only [h]

/-- One device's partial result at row `r` and column `n` of the whole. -/
theorem slab_apply (I : Ins Ideal) (j : Fin 2) (r : Fin 1024) (n : Fin 512) :
    slab I j (ix2 r n) = ∑ l : Fin 1024, ctxK (qS I) (kS I) (vS I) r l * I.wo (ix2 l (⟨512 * j.val + n.val, by omega⟩ : Fin 1024)) := by
  match j with
  | ⟨0, _⟩ =>
    refine (congrFun (slab0_eq I) _).trans ?_
    have h := partT_apply (qS I) (kS I) (vS I) I.wo
    generalize partT (qS I) (kS I) (vS I) I.wo = X at h ⊢
    pointwise
    rw [h]
  | ⟨1, _⟩ =>
    refine (congrFun (slab1_eq I) _).trans ?_
    have h := partT_apply (qS I) (kS I) (vS I) I.wo
    generalize partT (qS I) (kS I) (vS I) I.wo = X at h ⊢
    pointwise
    rw [h]

end Cert.Val
-- ==== Proof.Value.Proj.lean ====
/-
The kernel's queries, keys and values at an index, and the exchange's result as the sum over the devices.
-/
module

public import proofs.«01_k».proof.Proof.KernelIdeal.Body
public import Idealize.ShloMosaic.Lib.Pointwise

@[expose] public section

noncomputable section

namespace Cert.Val

open Cert.KernelIdeal Cert.KernelIdeal.Gen Cert.KernelIdealProof
open Idealize.ShloMosaic
open scoped BigOperators

/-- A projection of the rows. -/
def proj (x w : FVec Ideal S1024x1024 .bf16) (r n : Fin 1024) : EReal := ∑ k : Fin 1024, x (ix2 r k) * w (ix2 k n)

/-- A projection turned by the tables, its paired columns taken by a product with the pairing matrix. -/
def ropeK (x w p : FVec Ideal S1024x1024 .bf16) (cs sn : FVec Ideal S1024x1024 .f32) (r n : Fin 1024) : EReal :=
  proj x w r n * cs (ix2 r n) + (∑ l : Fin 1024, proj x w r l * p (ix2 l n)) * sn (ix2 r n)

theorem vS_apply (I : Ins Ideal) (r n : Fin 1024) : vS I (ix2 r n) = proj I.x I.wv r n := by
  unfold vS proj
  unfold_payloads
  pointwise

theorem kS_apply (I : Ins Ideal) (r n : Fin 1024) : kS I (ix2 r n) = ropeK I.x I.wk I.p I.cs I.sn r n := by
  unfold kS ropeK proj
  unfold_payloads
  pointwise

theorem qS_apply (I : Ins Ideal) (r n : Fin 1024) :
    qS I (ix2 r n) = ropeK I.x I.wq I.p I.cs I.sn r n * Ideal.ofBits .f32 0x3DB504F3#32 := by
  unfold qS ropeK proj
  unfold_payloads
  pointwise

theorem wS_sum (w0 : Fin 2 → Dev nD → ℕ → Fin 512 → Elt Ideal .bf16) (j : Fin 2) (c : Dev nD) (r : ℕ) (k : Fin 512) :
    wS w0 j 3 c r k = ∑ d : Dev nD, (w0 j d r k : EReal) := by
  have hp : ∀ (j : Fin 2) (c : Dev nD), Finset.univ = ({c, pt j 0 c, pt j 1 c, pt j 0 (pt j 1 c), pt j 2 c, pt j 0 (pt j 2 c), pt j 1 (pt j 2 c), pt j 0 (pt j 1 (pt j 2 c))} : Finset (Dev nD)) := by decide
  have hn : ∀ (j : Fin 2) (c : Dev nD), [c, pt j 0 c, pt j 1 c, pt j 0 (pt j 1 c), pt j 2 c, pt j 0 (pt j 2 c), pt j 1 (pt j 2 c), pt j 0 (pt j 1 (pt j 2 c))].Nodup := by decide
  have e : (∑ d : Dev nD, (w0 j d r k : EReal)) = (([c, pt j 0 c, pt j 1 c, pt j 0 (pt j 1 c), pt j 2 c, pt j 0 (pt j 2 c), pt j 1 (pt j 2 c), pt j 0 (pt j 1 (pt j 2 c))].map fun d => (w0 j d r k : EReal)).sum) := by
    rw [← List.sum_toFinset _ (hn j c)]
    refine Finset.sum_congr ?_ fun _ _ => rfl
    rw [hp j c]; ext x; simp
  rw [e]
  show ((((w0 j c r k : EReal) + w0 j (pt j 0 c) r k) + (w0 j (pt j 1 c) r k + w0 j (pt j 0 (pt j 1 c)) r k))
      + ((w0 j (pt j 2 c) r k + w0 j (pt j 0 (pt j 2 c)) r k) + (w0 j (pt j 1 (pt j 2 c)) r k + w0 j (pt j 0 (pt j 1 (pt j 2 c))) r k)) : EReal) = _
  simp only [List.map_cons, List.map_nil, List.sum_cons, List.sum_nil, add_zero]
  ac_rfl

/-- The kernel's result: the sum of the devices' partial results. -/
theorem outC_apply (w0 : Fin 2 → Dev nD → ℕ → Fin 512 → Elt Ideal .bf16) (b : Fin 1) (r n : Fin 1024) :
    outC w0 (ix3 b r n) = ∑ d : Dev nD, (w0 (⟨n.val / 512, by omega⟩ : Fin 2) d r.val ⟨n.val % 512, Nat.mod_lt _ (by decide)⟩ : EReal) := by
  have hj : (if n.val < 512 then (0 : Fin 2) else 1) = ⟨n.val / 512, by omega⟩ := by
    split
    · apply Fin.ext; show 0 = n.val / 512; omega
    · apply Fin.ext; show 1 = n.val / 512; omega
  rw [← hj]
  exact wS_sum w0 _ _ _ _

end Cert.Val
-- ==== Proof.Value.Real.lean ====
/-
Extended reals that are real numbers; the softmax law over them: a weighted mean with the weights `exp s` is the same with every
score lowered by one real number.
-/
module

public import Idealize.ShloMosaic.PureOps.Ideal
public import Mathlib.Data.EReal.Operations
public import Mathlib.Data.EReal.Inv

@[expose] public section

noncomputable section

namespace Cert.Val

open Idealize.ShloMosaic
open scoped BigOperators

/-- A real number. -/
def IsR (a : EReal) : Prop := ∃ r : ℝ, a = (r : EReal)

theorem IsR.coe (r : ℝ) : IsR (r : EReal) := ⟨r, rfl⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.sum {ι : Type} (s : Finset ι) {f : ι → EReal} (h : ∀ i, IsR (f i)) : IsR (∑ i ∈ s, f i) := by
  classical
  induction s using Finset.induction_on with
  | empty => exact ⟨0, by simp⟩
  | insert a s ha ih => rw [Finset.sum_insert ha]; exact (h a).add ih
theorem IsR.cos {a : EReal} (ha : IsR a) : IsR (Ideal.cos a) := by obtain ⟨x, rfl⟩ := ha; exact ⟨Real.cos x, rfl⟩
theorem IsR.sin {a : EReal} (ha : IsR a) : IsR (Ideal.sin a) := by obtain ⟨x, rfl⟩ := ha; exact ⟨Real.sin x, rfl⟩
theorem IsR.div {a b : EReal} (ha : IsR a) (hb : IsR b) (h0 : b ≠ 0) : IsR (Ideal.div a b) := by
  obtain ⟨x, rfl⟩ := ha; obtain ⟨y, rfl⟩ := hb
  unfold Ideal.div
  rw [if_neg h0]
  exact ⟨x * y⁻¹, by rw [EReal.coe_mul, EReal.coe_inv]⟩

/-- Strictly between the infinities is real. -/
theorem IsR.of_abs_lt {a : EReal} (h : max a (-a) < ⊤) : IsR a := by
  induction a using EReal.rec with
  | bot => simp at h
  | top => simp at h
  | coe r => exact ⟨r, rfl⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum of any extended reals. -/
theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top (EReal.coe_nonneg.mpr hc) (EReal.coe_ne_top c)]
    rw [mul_comm, mul_comm (c : EReal)]

theorem div_real (a : EReal) {d : ℝ} (h : d ≠ 0) : Ideal.div a (d : EReal) = a * ((d⁻¹ : ℝ) : EReal) := by
  unfold Ideal.div
  rw [if_neg (by simpa using h), EReal.coe_inv]

theorem exp_real (r : ℝ) : Ideal.exp (r : EReal) = (Real.exp r : EReal) := rfl

theorem fold_max_real {n : ℕ} (hn : 0 < n) (s : Fin n → ℝ) : ∃ M : ℝ, Finset.univ.fold max (⊥ : EReal) (fun j => (s j : EReal)) = (M : EReal) := by
  have h : Finset.univ.fold max (⊥ : EReal) (fun j => (s j : EReal)) = Finset.univ.sup (fun j => (s j : EReal)) := rfl
  have hne : (Finset.univ : Finset (Fin n)).Nonempty := ⟨⟨0, hn⟩, Finset.mem_univ _⟩
  obtain ⟨i, _, hi⟩ := Finset.exists_mem_eq_sup Finset.univ hne (fun j => (s j : EReal))
  exact ⟨s i, h.trans hi⟩

/-- The softmax law. -/
theorem softmax_law {n : ℕ} (hn : 0 < n) (s : Fin n → EReal) (hs : ∀ j, IsR (s j)) (v : Fin n → EReal) (M : EReal) (hM : IsR M) :
    Ideal.div (∑ j, Ideal.exp (s j) * v j) (∑ j, Ideal.exp (s j))
      = ∑ j, v j * Ideal.div (Ideal.exp (s j - M)) (∑ l, Ideal.exp (s l - M)) := by
  choose t ht using hs
  obtain ⟨μ, rfl⟩ := hM
  obtain rfl : s = fun j => (t j : EReal) := funext ht
  have hne : (Finset.univ : Finset (Fin n)).Nonempty := ⟨⟨0, hn⟩, Finset.mem_univ _⟩
  have hD : 0 < ∑ j, Real.exp (t j) := Finset.sum_pos (fun j _ => Real.exp_pos _) hne
  have hD' : 0 < ∑ j, Real.exp (t j - μ) := Finset.sum_pos (fun j _ => Real.exp_pos _) hne
  have e1 : (∑ j, Ideal.exp ((t j : ℝ) : EReal)) = ((∑ j, Real.exp (t j) : ℝ) : EReal) := coe_sum _ _
  have e2 : (∑ j, Ideal.exp ((t j : EReal) - (μ : EReal))) = ((∑ j, Real.exp (t j - μ) : ℝ) : EReal) :=
    (Finset.sum_congr rfl fun j _ => by rw [← EReal.coe_sub, exp_real]).trans (coe_sum _ _)
  have hshift : ∑ j, Real.exp (t j - μ) = (∑ j, Real.exp (t j)) * Real.exp (-μ) := by
    rw [Finset.sum_mul]; exact Finset.sum_congr rfl fun j _ => by rw [← Real.exp_add, sub_eq_add_neg]
  rw [e1, e2, div_real _ hD.ne', sum_mul_real _ _ _ (inv_nonneg.mpr hD.le)]
  refine Finset.sum_congr rfl fun j _ => ?_
  rw [div_real _ hD'.ne', ← EReal.coe_sub, exp_real, exp_real, mul_comm (Real.exp (t j) : EReal), mul_assoc, ← EReal.coe_mul, ← EReal.coe_mul]
  congr 2
  rw [hshift, sub_eq_add_neg, Real.exp_add, mul_inv]
  have := (Real.exp_pos (-μ)).ne'
  field_simp

/-- A scale on one factor of a sum of products of reals is a scale of the sum. -/
theorem scale_law {n : ℕ} (q k : Fin n → EReal) (c : EReal) (hq : ∀ j, IsR (q j)) (hk : ∀ j, IsR (k j)) (hc : IsR c) :
    ∑ e, q e * c * k e = (∑ e, q e * k e) * c := by
  choose a ha using hq
  choose b hb using hk
  obtain ⟨x, rfl⟩ := hc
  obtain rfl : q = fun j => (a j : EReal) := funext ha
  obtain rfl : k = fun j => (b j : EReal) := funext hb
  simp only [← EReal.coe_mul, coe_sum]
  congr 1
  rw [Finset.sum_mul]
  exact Finset.sum_congr rfl fun j _ => by ring

/-! ## The constants -/

theorem c_neg_inf : Ideal.ofBits .f32 0xFF800000#32 = ⊥ := by simp [Ideal.ofBits, Ideal.ieee]
theorem c_pos_inf : Ideal.ofBits .f32 0x7F800000#32 = ⊤ := by simp [Ideal.ofBits, Ideal.ieee]
theorem c_scale : IsR (Ideal.ofBits .f32 0x3DB504F3#32) := by
  simp only [Ideal.ofBits, Ideal.ieee]
  norm_num
  exact IsR.coe _
/-- A positive normal 32-bit pattern. -/
theorem ofBits_normal (b : BitVec 32) (ex fr : ℕ) (hs : b.extractLsb' 31 1 = 0#1) (he : (b.extractLsb' 23 8).toNat = ex) (hf : (b.extractLsb' 0 23).toNat = fr)
    (h1 : ex ≠ 255) (h0 : ex ≠ 0) :
    Ideal.ofBits .f32 b = (((2 ^ 23 + fr : ℕ) * (2 : ℝ) ^ ((ex : ℤ) - 127 - 23) : ℝ) : EReal) := by
  show Ideal.ieee 8 23 b = _
  unfold Ideal.ieee
  simp only [Nat.reduceAdd, hs, he, hf]
  rw [if_neg (by norm_num; exact h1), if_neg h0]
  norm_num
theorem c_128 : IsR (Ideal.ofBits .f32 0x43000000#32) ∧ Ideal.ofBits .f32 0x43000000#32 ≠ 0 := by
  rw [ofBits_normal 0x43000000#32 134 0 (by decide) (by decide) (by decide) (by decide) (by decide)]
  refine ⟨IsR.coe _, ?_⟩
  rw [Ne, EReal.coe_eq_zero]
  positivity
theorem c_10000 : ∃ x : ℝ, 0 < x ∧ Ideal.ofBits .f32 0x461C4000#32 = (x : EReal) :=
  ⟨_, by positivity, ofBits_normal 0x461C4000#32 140 1851392 (by decide) (by decide) (by decide) (by decide) (by decide)⟩

/-- One over a power of that base to a real exponent is real. -/
theorem inv_pow_real {y : EReal} (hy : IsR y) : IsR (Ideal.div 1 (Ideal.pow (Ideal.ofBits .f32 0x461C4000#32) y)) := by
  obtain ⟨x, hx, e⟩ := c_10000
  obtain ⟨z, rfl⟩ := hy
  rw [e]
  refine IsR.div ⟨1, rfl⟩ ⟨Real.rpow x z, rfl⟩ ?_
  show ((Real.rpow x z : ℝ) : EReal) ≠ 0
  rw [Ne, EReal.coe_eq_zero]
  exact (Real.rpow_pos_of_pos hx z).ne'

end Cert.Val
-- ==== Proof.Value.Tables.lean ====
/-
The tables the host prepares for the kernel, at an index: the cosines and sines of the turning angles, and the matrix that takes each
column to its pair.
-/
module

public import proofs.«01_k».proof.Proof.KernelIdeal.Out
public import proofs.«01_k».proof.Proof.Value.Real
public import Idealize.ShloMosaic.Lib.Pointwise
public import Idealize.ShloMosaic.Lib.StableHlo.ReadAt

@[expose] public section

noncomputable section

namespace Cert.Val

open Cert.KernelIdeal Cert.KernelIdeal.Gen Cert.KernelIdealProof
open Idealize.ShloMosaic Idealize.ShloMosaic.TcCoe
open scoped BigOperators

/-- The turning angle of row `r` at pair `u`. -/
def ang (r u : ℕ) : EReal :=
  (FloatOps.sitofp FTy.f32 (BitVec.ofNat 32 r) : Ideal .f32) *
    Ideal.div 1
      (Ideal.pow (Ideal.ofBits FTy.f32 1176256512#32)
        (Ideal.div (FloatOps.sitofp FTy.f32 (IntOp.addi (0#32) (IntOp.muli (2#32) (BitVec.ofNat 32 u))) : Ideal .f32)
          (Ideal.ofBits FTy.f32 1124073472#32)))

theorem ang_real (r u : ℕ) : IsR (ang r u) :=
  IsR.mul ⟨_, rfl⟩ (inv_pow_real (IsR.div ⟨_, rfl⟩ c_128.1 c_128.2))

variable (m : (ℓ : Loc nD τ sig) → Buf (Elt Ideal) ℓ)

set_option maxRecDepth 16384

theorem cs_apply (c : Dev nD) (r n : Fin 1024) : (V m c main_v29 (ix2 r n) : EReal) = Ideal.cos (ang r.val (n.val % 128 / 2)) := by
  unfold V ang
  after_reads_at

theorem sn_apply (c : Dev nD) (r n : Fin 1024) : (V m c main_v32 (ix2 r n) : EReal) = Ideal.sin (ang r.val (n.val % 128 / 2)) := by
  unfold V ang
  after_reads_at

theorem x_apply (c : Dev nD) (r n : Fin 1024) : V m c main_v1 (ix2 r n) = m ((c : Thread nD τ).loc main_arg0) (ix3 0 r n) := by
  unfold V
  after_reads_at

/-! ## The pairing matrix -/

theorem even_word : ∀ r : Fin 1024, IntOp.andi (BitVec.ofNat 32 r.val) 4294967294#32 = BitVec.ofNat 32 (r.val / 2 * 2) := by decide +kernel

/-- The matrix's entries. -/
def pm (c : Dev nD) (r n : Fin 1024) : EReal := V m c main_v44 (ix2 r n)

theorem p_read (c : Dev nD) (r n : Fin 1024) : pm m c r n =
    (FloatOps.sitofp FTy.f32
      (IntOp.muli
        (BitVec.setWidth 32
          (IntOp.cmpi CmpIPredicate.eq (IntOp.andi (BitVec.ofNat 32 r.val) 4294967294#32) (IntOp.andi (BitVec.ofNat 32 n.val) 4294967294#32)))
        (IntOp.subi (BitVec.ofNat 32 n.val) (BitVec.ofNat 32 r.val))) : Ideal .f32) := by
  unfold pm V
  after_reads_at

theorem even_ne {r n : Fin 1024} (h : r.val / 2 ≠ n.val / 2) :
    IntOp.cmpi CmpIPredicate.eq (IntOp.andi (BitVec.ofNat 32 r.val) 4294967294#32) (IntOp.andi (BitVec.ofNat 32 n.val) 4294967294#32) = 0#1 := by
  rw [even_word, even_word]
  have : (BitVec.ofNat 32 (r.val / 2 * 2) == BitVec.ofNat 32 (n.val / 2 * 2)) = false := by
    rw [beq_eq_false_iff_ne]
    intro e
    have := congrArg BitVec.toNat e
    rw [BitVec.toNat_ofNat, BitVec.toNat_ofNat] at this
    omega
  show BitVec.ofBool (BitVec.ofNat 32 (r.val / 2 * 2) == BitVec.ofNat 32 (n.val / 2 * 2)) = 0#1
  rw [this]; rfl

theorem p_far (c : Dev nD) {r n : Fin 1024} (h : r.val / 2 ≠ n.val / 2) : pm m c r n = 0 := by
  rw [p_read, even_ne h]
  have : IntOp.muli (BitVec.setWidth 32 (0#1)) (IntOp.subi (BitVec.ofNat 32 n.val) (BitVec.ofNat 32 r.val)) = 0#32 := by
    show BitVec.setWidth 32 (0#1) * _ = 0#32
    simp
  rw [this]
  show (((0#32 : BitVec 32).toInt : ℝ) : EReal) = 0
  simp

/-- The word of the entry in the column of pair `r`, offset `a` in the pair, row offset `b`. -/
theorem near_word : ∀ u : Fin 512, ∀ a b : Fin 2,
    IntOp.muli
        (BitVec.setWidth 32
          (IntOp.cmpi CmpIPredicate.eq (IntOp.andi (BitVec.ofNat 32 (2 * u.val + b.val)) 4294967294#32) (IntOp.andi (BitVec.ofNat 32 (2 * u.val + a.val)) 4294967294#32)))
        (IntOp.subi (BitVec.ofNat 32 (2 * u.val + a.val)) (BitVec.ofNat 32 (2 * u.val + b.val)))
      = if a.val = b.val then 0#32 else if b.val < a.val then 1#32 else 4294967295#32 := by decide +kernel

theorem p_near (c : Dev nD) {r n : Fin 1024} (h : r.val / 2 = n.val / 2) :
    pm m c r n = if n.val % 2 = r.val % 2 then 0 else if r.val % 2 < n.val % 2 then 1 else -1 := by
  rw [p_read]
  have e := near_word ⟨r.val / 2, by omega⟩ ⟨n.val % 2, by omega⟩ ⟨r.val % 2, by omega⟩
  have er : 2 * (r.val / 2) + r.val % 2 = r.val := by omega
  have en : 2 * (r.val / 2) + n.val % 2 = n.val := by omega
  simp only [er, en] at e
  rw [e]
  split
  · show (((0#32 : BitVec 32).toInt : ℝ) : EReal) = 0
    simp
  split
  · show (((1#32 : BitVec 32).toInt : ℝ) : EReal) = 1
    simp
  · show (((4294967295#32 : BitVec 32).toInt : ℝ) : EReal) = -1
    have : (4294967295#32 : BitVec 32).toInt = -1 := by decide
    rw [this]; norm_num

/-- The product with the pairing matrix: each pair of columns `(a, b)` made `(-b, a)`. -/
theorem pair_sum (c : Dev nD) (t : Fin 1024 → EReal) (n : Fin 1024) :
    ∑ l : Fin 1024, t l * pm m c l n
      = if h : n.val % 2 < 1 then -t ⟨n.val / 2 * 2 + 1, by omega⟩ else t ⟨n.val / 2 * 2, by omega⟩ := by
  split
  · rename_i h
    rw [Finset.sum_eq_single (⟨n.val / 2 * 2 + 1, by omega⟩ : Fin 1024)]
    · rw [p_near m c (by show (n.val / 2 * 2 + 1) / 2 = n.val / 2; omega), if_neg (by show ¬ n.val % 2 = (n.val / 2 * 2 + 1) % 2; omega),
        if_neg (by show ¬ (n.val / 2 * 2 + 1) % 2 < n.val % 2; omega), mul_neg, mul_one]
    · intro l _ hl
      by_cases e : l.val / 2 = n.val / 2
      · rw [p_near m c e, if_pos, mul_zero]
        have : l.val ≠ n.val / 2 * 2 + 1 := fun h => hl (Fin.ext h)
        omega
      · rw [p_far m c e, mul_zero]
    · intro h; exact absurd (Finset.mem_univ _) h
  · rename_i h
    rw [Finset.sum_eq_single (⟨n.val / 2 * 2, by omega⟩ : Fin 1024)]
    · rw [p_near m c (by show (n.val / 2 * 2) / 2 = n.val / 2; omega), if_neg (by show ¬ n.val % 2 = (n.val / 2 * 2) % 2; omega),
        if_pos (by show (n.val / 2 * 2) % 2 < n.val % 2; omega), mul_one]
    · intro l _ hl
      by_cases e : l.val / 2 = n.val / 2
      · rw [p_near m c e, if_pos, mul_zero]
        have : l.val ≠ n.val / 2 * 2 := fun h => hl (Fin.ext h)
        omega
      · rw [p_far m c e, mul_zero]
    · intro h; exact absurd (Finset.mem_univ _) h

end Cert.Val
-- ==== Proof.Value.Ref.lean ====
/-
The reference's composed term, cut into its stages, each stage read at an index.
-/
module

public import proofs.«01_k».proof.Proof.Gen.ReferenceIdeal.Run
public import Idealize.ShloMosaic.Lib.Pointwise
public import proofs.«01_k».proof.Proof.Value.Tables

@[expose] public section

noncomputable section

namespace Cert.Val

open Cert.ReferenceIdeal Cert.ReferenceIdeal.Gen Cert.ReferenceIdeal.Value
open Idealize.ShloMosaic Idealize.ShloMosaic.TcCoe
open scoped BigOperators

/-! ## The stages -/

/-- The turning angles: the row's number times the frequency of the pair of columns. -/
def angV : FVec Ideal S1024x64 .f32 :=
  mulf
    (broadcastInDim S1024x64 ![0, 1] bcast_S1024x1_S1024x64_0_1
      (sitofp .f32 (broadcastInDim S1024x1 ![0] bcast_S1024_S1024x1_0 (iotaInDim S1024 32 0))))
    (broadcastInDim S1024x64 ![0, 1] bcast_S1x64_S1024x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf
            (sitofp .f32 (addi (broadcastInDim S64 ![] bcast_S_S64 (constantI S_ 32 0#32))
              (muli (broadcastInDim S64 ![] bcast_S_S64 (constantI S_ 32 2#32)) (iotaInDim S64 32 0))))
            (broadcastInDim S64 ![] bcast_S_S64 (constant S_ .f32 0x43000000#32)))))))

/-- A table of one number per row and pair, each pair's number standing twice, over all heads. -/
def tabV (t : FVec Ideal S1024x64 .f32) : FVec Ideal S1x1024x64x128 .f32 :=
  broadcastInDim S1x1024x64x128 ![0, 1, 2, 3] bcast_S1x1024x1x128_S1x1024x64x128_0_1_2_3
    (broadcastInDim S1x1024x1x128 ![1, 3] bcast_S1024x128_S1x1024x1x128_1_3
      (shapeCast S1024x128 (broadcastInDim S1024x64x2 ![0, 1] bcast_S1024x64_S1024x64x2_0_1 t) shapeCasts_S1024x64x2_S1024x128))

/-- A projection, by heads. -/
def projV (x : FVec Ideal S1x1024x1024 .bf16) (w : FVec Ideal S1024x8192 .bf16) : FVec Ideal S1x1024x64x128 .f32 :=
  shapeCast S1x1024x64x128
    (Host.dotGeneral dot_S1x1024x1024_S1024x8192_S1x1024x8192_2_0_01_1_n_n none (extf .f32 x bitsLt_bf16_f32 : FVec Ideal S1x1024x1024 .f32)
      (extf .f32 w bitsLt_bf16_f32 : FVec Ideal S1024x8192 .f32) : FVec Ideal S1x1024x8192 .f32)
    shapeCasts_S1x1024x8192_S1x1024x64x128

/-- Each pair of columns `(a, b)` made `(-b, a)`. -/
def pairV (t : FVec Ideal S1x1024x64x128 .f32) : FVec Ideal S1x1024x64x128 .f32 :=
  shapeCast S1x1024x64x128
    (fn_main_v40 (F := Ideal)
      (broadcastInDim S1x1024x64x64x1 ![0, 1, 2, 3] bcast_S1x1024x64x64_S1x1024x64x64x1_0_1_2_3
        (Host.negf (shapeCast S1x1024x64x64
          (extractStridedSlice S1x1024x64x64x1 ![0, 0, 0, 0, 1] (shapeCast S1x1024x64x64x2 t shapeCasts_S1x1024x64x128_S1x1024x64x64x2)
            slices_S1x1024x64x64x2_S1x1024x64x64x1_0_0_0_0_1)
          shapeCasts_S1x1024x64x64x1_S1x1024x64x64 : FVec Ideal S1x1024x64x64 .f32)))
      (broadcastInDim S1x1024x64x64x1 ![0, 1, 2, 3] bcast_S1x1024x64x64_S1x1024x64x64x1_0_1_2_3
        (shapeCast S1x1024x64x64
          (extractStridedSlice S1x1024x64x64x1 ![0, 0, 0, 0, 0] (shapeCast S1x1024x64x64x2 t shapeCasts_S1x1024x64x128_S1x1024x64x64x2)
            slices_S1x1024x64x64x2_S1x1024x64x64x1_0_0_0_0_0)
          shapeCasts_S1x1024x64x64x1_S1x1024x64x64)) : FVec Ideal S1x1024x64x64x2 .f32)
    shapeCasts_S1x1024x64x64x2_S1x1024x64x128

/-- A projection turned. -/
def ropeV (t : FVec Ideal S1x1024x64x128 .f32) : FVec Ideal S1x1024x64x128 .f32 :=
  addf (mulf t (tabV (Host.cos angV))) (mulf (pairV t) (tabV (Host.sin angV)))

/-- The scaled scores. -/
def scoreV (q k : FVec Ideal S1x1024x64x128 .f32) : FVec Ideal S1x64x1024x1024 .f32 :=
  mulf (Host.dotGeneral dot_S1x1024x64x128_S1x1024x64x128_S1x64x1024x1024_3_3_1_1_02_02 none q k : FVec Ideal S1x64x1024x1024 .f32)
    (broadcastInDim S1x64x1024x1024 ![] bcast_S_S1x64x1024x1024 (constant S_ .f32 0x3DB504F3#32))

/-- The exponentials of the scores, each row's largest taken off. -/
def expV (s : FVec Ideal S1x64x1024x1024 .f32) : FVec Ideal S1x64x1024x1024 .f32 :=
  Host.exp (subf s (broadcastInDim S1x64x1024x1024 ![0, 1, 2, 3] bcast_S1x64x1024x1_S1x64x1024x1024_0_1_2_3
    (broadcastInDim S1x64x1024x1 ![0, 1, 2] bcast_S1x64x1024_S1x64x1024x1_0_1_2
      (Host.reduce FloatOps.maximumf s (constant S_ .f32 0xFF800000#32 : FVec Ideal S_ .f32) reducesTo_S1x64x1024x1024_S1x64x1024_d3 h_S_))))

/-- The weights: each row of exponentials divided by its sum. -/
def probV (p : FVec Ideal S1x64x1024x1024 .f32) : FVec Ideal S1x64x1024x1024 .f32 :=
  Host.divf p (broadcastInDim S1x64x1024x1024 ![0, 1, 2, 3] bcast_S1x64x1024x1_S1x64x1024x1024_0_1_2_3
    (broadcastInDim S1x64x1024x1 ![0, 1, 2] bcast_S1x64x1024_S1x64x1024x1_0_1_2
      (Host.reduceAdd p (constant S_ .f32 0x00000000#32 : FVec Ideal S_ .f32) reducesTo_S1x64x1024x1024_S1x64x1024_d3 h_S_)))

/-- The weighted values, heads side by side. -/
def ctxV (v : FVec Ideal S1x1024x64x128 .f32) (p : FVec Ideal S1x64x1024x1024 .f32) : FVec Ideal S1x1024x8192 .f32 :=
  shapeCast S1x1024x8192
    (transpose S1x1024x64x128 [0, 3, 1, 2]
      (Host.dotGeneral dot_S1x1024x64x128_S1x64x1024x1024_S1x64x128x1024_1_3_3_2_02_01 none v p : FVec Ideal S1x64x128x1024 .f32)
      transposes_S1x64x128x1024_S1x1024x64x128_0_3_1_2)
    shapeCasts_S1x1024x64x128_S1x1024x8192

/-- The output product. -/
def outV (c : FVec Ideal S1x1024x8192 .f32) (wo : FVec Ideal S8192x1024 .bf16) : FVec Ideal S1x1024x1024 .f32 :=
  Host.dotGeneral dot_S1x1024x8192_S8192x1024_S1x1024x1024_2_0_01_1_n_n none c (extf .f32 wo bitsLt_bf16_f32 : FVec Ideal S8192x1024 .f32)

/-- The whole. -/
def refV (x : FVec Ideal S1x1024x1024 .bf16) (wq wk wv : FVec Ideal S1024x8192 .bf16) (wo : FVec Ideal S8192x1024 .bf16) :
    FVec Ideal S1x1024x1024 .f32 :=
  outV (ctxV (projV x wv) (probV (expV (scoreV (ropeV (projV x wq)) (ropeV (projV x wk)))))) wo

theorem res_eq (m : (ℓ : Loc nD τ sig) → Buf (Elt Ideal) ℓ) (c : Dev nD) :
    res_main_v85 m c = refV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The stages at an index -/

set_option maxRecDepth 16384

theorem angV_apply (r : Fin 1024) (u : Fin 64) : angV (ix2 r u) = ang r.val u.val := by
  unfold ang
  pointwise [angV]

theorem tabV_apply (t : FVec Ideal S1024x64 .f32) (r : Fin 1024) (h : Fin 64) (d : Fin 128) :
    tabV t (ix4 0 r h d) = t (ix2 r ⟨d.val / 2, by omega⟩) := by
  pointwise [tabV]

theorem projV_apply (x : FVec Ideal S1x1024x1024 .bf16) (w : FVec Ideal S1024x8192 .bf16) (r : Fin 1024) (h : Fin 64) (d : Fin 128) :
    projV x w (ix4 0 r h d) = ∑ k : Fin 1024, x (ix3 0 r k) * w (ix2 k ⟨h.val * 128 + d.val, by omega⟩) := by
  pointwise [projV]

theorem pairV_apply (t : FVec Ideal S1x1024x64x128 .f32) (r : Fin 1024) (h : Fin 64) (d : Fin 128) :
    pairV t (ix4 0 r h d)
      = if d.val % 2 < 1 then -t (ix4 0 r h ⟨d.val / 2 * 2 + 1, by omega⟩) else t (ix4 0 r h ⟨d.val / 2 * 2, by omega⟩) := by
  pointwise [pairV, fn_main_v40]
  split <;> rfl

theorem ropeV_apply (t : FVec Ideal S1x1024x64x128 .f32) (r : Fin 1024) (h : Fin 64) (d : Fin 128) :
    ropeV t (ix4 0 r h d)
      = t (ix4 0 r h d) * Ideal.cos (ang r.val (d.val / 2))
        + (if d.val % 2 < 1 then -t (ix4 0 r h ⟨d.val / 2 * 2 + 1, by omega⟩) else t (ix4 0 r h ⟨d.val / 2 * 2, by omega⟩)) * Ideal.sin (ang r.val (d.val / 2)) := by
  show t (ix4 0 r h d) * tabV (Host.cos angV) (ix4 0 r h d) + pairV t (ix4 0 r h d) * tabV (Host.sin angV) (ix4 0 r h d) = _
  rw [tabV_apply, tabV_apply, pairV_apply, ← angV_apply r ⟨d.val / 2, by omega⟩]
  rfl

theorem scoreV_apply (q k : FVec Ideal S1x1024x64x128 .f32) (h : Fin 64) (r s : Fin 1024) :
    scoreV q k (ix4 0 h r s) = (∑ e : Fin 128, q (ix4 0 r h e) * k (ix4 0 s h e)) * Ideal.ofBits .f32 0x3DB504F3#32 := by
  pointwise [scoreV]

theorem expV_apply (s : FVec Ideal S1x64x1024x1024 .f32) (h : Fin 64) (r l : Fin 1024) :
    expV s (ix4 0 h r l) = Ideal.exp (s (ix4 0 h r l) - Finset.univ.fold max ⊥ fun x : Fin 1024 => s (ix4 0 h r x)) := by
  rw [← c_neg_inf]
  pointwise [expV]

theorem probV_apply (s : FVec Ideal S1x64x1024x1024 .f32) (h : Fin 64) (r l : Fin 1024) :
    probV s (ix4 0 h r l) = Ideal.div (s (ix4 0 h r l)) (∑ x : Fin 1024, s (ix4 0 h r x)) := by
  pointwise [probV]

theorem ctxV_apply (v : FVec Ideal S1x1024x64x128 .f32) (p : FVec Ideal S1x64x1024x1024 .f32) (b : Fin 1) (r : Fin 1024) (n : Fin 8192) :
    ctxV v p (ix3 b r n) = ∑ x : Fin 1024, v (ix4 0 x ⟨n.val / 128, by omega⟩ ⟨n.val % 128, by omega⟩) * p (ix4 0 ⟨n.val / 128, by omega⟩ r x) := by
  pointwise [ctxV]

theorem outV_apply (c : FVec Ideal S1x1024x8192 .f32) (wo : FVec Ideal S8192x1024 .bf16) (b : Fin 1) (r n : Fin 1024) :
    outV c wo (ix3 b r n) = ∑ x : Fin 8192, c (ix3 b r x) * wo (ix2 x n) := by
  pointwise [outV]

end Cert.Val
-- ==== Proof.Value.Equal.lean ====
/-
The kernel's result is the reference's, for real inputs: the heads of device `c` are the heads `8 c …` of the whole, the sum over the
devices of their partial products is the product over all columns.
-/
module

public import proofs.«01_k».proof.Proof.Value.Head
public import proofs.«01_k».proof.Proof.Value.Proj
public import proofs.«01_k».proof.Proof.Value.Ref

@[expose] public section

noncomputable section

namespace Cert.Val

open Cert.KernelIdealProof
open Cert.KernelIdeal (nD)
open Idealize.ShloMosaic
open scoped BigOperators

/-- Column `n` of device `c` in the whole, its head and its place in the head. -/
def gcol (c : Dev nD) (n : Fin 1024) : Fin 8192 := ⟨c.val * 1024 + n.val, by have := c.isLt; change c.val < 8 at this; omega⟩
def hd (c : Dev nD) (n : Fin 1024) : Fin 64 := ⟨c.val * 8 + n.val / 128, by have := c.isLt; change c.val < 8 at this; omega⟩
def ld (n : Fin 1024) : Fin 128 := ⟨n.val % 128, Nat.mod_lt _ (by decide)⟩

theorem hd_colOf (c : Dev nD) (n : Fin 1024) (e : Fin 128) : hd c (colOf n e) = hd c n := by
  apply Fin.ext; show c.val * 8 + (128 * (n.val / 128) + e.val) / 128 = c.val * 8 + n.val / 128; omega
theorem ld_colOf (n : Fin 1024) (e : Fin 128) : ld (colOf n e) = e := by
  apply Fin.ext; show (128 * (n.val / 128) + e.val) % 128 = e.val; omega

abbrev A1 : Type := FVec Ideal ⟨3, ![1, 1024, 1024]⟩ .bf16
abbrev A2 : Type := FVec Ideal ⟨2, ![1024, 8192]⟩ .bf16
abbrev A3 : Type := FVec Ideal ⟨2, ![8192, 1024]⟩ .bf16

/-- What the devices' operands are of the whole arrays. -/
structure Shared (I : Dev nD → Ins Ideal) (X : A1) (Wq Wk Wv : A2) (Wo : A3) : Prop where
  x : ∀ c (r k : Fin 1024), (I c).x (ix2 r k) = X (ix3 0 r k)
  wq : ∀ c (k n : Fin 1024), (I c).wq (ix2 k n) = Wq (ix2 k (gcol c n))
  wk : ∀ c (k n : Fin 1024), (I c).wk (ix2 k n) = Wk (ix2 k (gcol c n))
  wv : ∀ c (k n : Fin 1024), (I c).wv (ix2 k n) = Wv (ix2 k (gcol c n))
  wo : ∀ c (k n : Fin 1024), (I c).wo (ix2 k n) = Wo (ix2 (gcol c k) n)
  cs : ∀ c (r n : Fin 1024), (I c).cs (ix2 r n) = Ideal.cos (ang r.val (n.val % 128 / 2))
  sn : ∀ c (r n : Fin 1024), (I c).sn (ix2 r n) = Ideal.sin (ang r.val (n.val % 128 / 2))
  p : ∀ c (t : Fin 1024 → EReal) (n : Fin 1024), ∑ l : Fin 1024, t l * (I c).p (ix2 l n)
      = if h : n.val % 2 < 1 then -t ⟨n.val / 2 * 2 + 1, by omega⟩ else t ⟨n.val / 2 * 2, by omega⟩
  xR : ∀ c (r k : Fin 1024), IsR ((I c).x (ix2 r k))
  qR : ∀ c (r k : Fin 1024), IsR ((I c).wq (ix2 r k))
  kR : ∀ c (r k : Fin 1024), IsR ((I c).wk (ix2 r k))

variable {I : Dev nD → Ins Ideal} {X : A1} {Wq Wk Wv : A2} {Wo : A3} (D : Shared I X Wq Wk Wv Wo)
include D

theorem proj_eq (c : Dev nD) (w : FVec Ideal ⟨2, ![1024, 1024]⟩ .bf16) (W : A2) (hw : ∀ k n : Fin 1024, w (ix2 k n) = W (ix2 k (gcol c n))) (r n : Fin 1024) :
    proj (I c).x w r n = projV X W (ix4 0 r (hd c n) (ld n)) := by
  rw [projV_apply]
  unfold proj
  refine Finset.sum_congr rfl fun k _ => ?_
  rw [D.x, hw]
  have : gcol c n = (⟨(hd c n).val * 128 + (ld n).val, by have := (hd c n).isLt; have := (ld n).isLt; omega⟩ : Fin 8192) := by
    apply Fin.ext
    show c.val * 1024 + n.val = (c.val * 8 + n.val / 128) * 128 + n.val % 128
    omega
  rw [this]

theorem rope_eq (c : Dev nD) (w : FVec Ideal ⟨2, ![1024, 1024]⟩ .bf16) (W : A2) (hw : ∀ k n : Fin 1024, w (ix2 k n) = W (ix2 k (gcol c n))) (r n : Fin 1024) :
    ropeK (I c).x w (I c).p (I c).cs (I c).sn r n = ropeV (projV X W) (ix4 0 r (hd c n) (ld n)) := by
  unfold ropeK
  rw [ropeV_apply, D.cs, D.sn, D.p c (fun l => proj (I c).x w r l) n, proj_eq D c w W hw]
  have e : (ld n).val % 2 = n.val % 2 := by show n.val % 128 % 2 = n.val % 2; omega
  have pe : ∀ (a : Fin 1024) (d : Fin 128), a.val / 128 = n.val / 128 → a.val % 128 = d.val →
      proj (I c).x w r a = projV X W (ix4 0 r (hd c n) d) := fun a d h1 h2 => by
    rw [proj_eq D c w W hw]
    have i1 : hd c a = hd c n := by apply Fin.ext; show c.val * 8 + a.val / 128 = c.val * 8 + n.val / 128; rw [h1]
    have i2 : ld a = d := Fin.ext h2
    rw [i1, i2]
  congr 2
  by_cases h : n.val % 2 < 1
  · rw [dif_pos h, if_pos (by rw [e]; exact h)]
    congr 1
    refine pe _ _ ?_ ?_
    · show (n.val / 2 * 2 + 1) / 128 = n.val / 128; omega
    · show (n.val / 2 * 2 + 1) % 128 = n.val % 128 / 2 * 2 + 1; omega
  · rw [dif_neg h, if_neg (by rw [e]; exact h)]
    refine pe _ _ ?_ ?_
    · show (n.val / 2 * 2) / 128 = n.val / 128; omega
    · show (n.val / 2 * 2) % 128 = n.val % 128 / 2 * 2; omega

theorem proj_real (c : Dev nD) (w : FVec Ideal ⟨2, ![1024, 1024]⟩ .bf16) (hw : ∀ k n : Fin 1024, IsR (w (ix2 k n))) (r n : Fin 1024) : IsR (proj (I c).x w r n) :=
  IsR.sum _ fun k => (D.xR c r k).mul (hw k n)

theorem rope_real (c : Dev nD) (w : FVec Ideal ⟨2, ![1024, 1024]⟩ .bf16) (hw : ∀ k n : Fin 1024, IsR (w (ix2 k n))) (r n : Fin 1024) :
    IsR (ropeK (I c).x w (I c).p (I c).cs (I c).sn r n) := by
  unfold ropeK
  rw [D.cs, D.sn, D.p c (fun l => proj (I c).x w r l) n]
  refine ((proj_real D c w hw r n).mul (ang_real _ _).cos).add (IsR.mul ?_ (ang_real _ _).sin)
  split
  · obtain ⟨x, hx⟩ := proj_real D c w hw r ⟨n.val / 2 * 2 + 1, by omega⟩
    exact ⟨-x, by rw [hx, EReal.coe_neg]⟩
  · exact proj_real D c w hw r _

/-- The turned queries and keys of the reference, as the kernel's. -/
abbrev qG (_ : Shared I X Wq Wk Wv Wo) : FVec Ideal ⟨4, ![1, 1024, 64, 128]⟩ .f32 := ropeV (projV X Wq)
abbrev kG (_ : Shared I X Wq Wk Wv Wo) : FVec Ideal ⟨4, ![1, 1024, 64, 128]⟩ .f32 := ropeV (projV X Wk)

theorem qG_real (c : Dev nD) (r n : Fin 1024) : IsR (qG D (ix4 0 r (hd c n) (ld n))) := by
  have h := rope_real D c _ (D.qR c) r n
  rwa [rope_eq D c _ _ (D.wq c)] at h
theorem kG_real (c : Dev nD) (r n : Fin 1024) : IsR (kG D (ix4 0 r (hd c n) (ld n))) := by
  have h := rope_real D c _ (D.kR c) r n
  rwa [rope_eq D c _ _ (D.wk c)] at h

/-- The scores of head `hd c n`: the scale may be taken before or after the product. -/
theorem score_eq (c : Dev nD) (r s n : Fin 1024) :
    ∑ e : Fin 128, qS (I c) (ix2 r (colOf n e)) * kS (I c) (ix2 s (colOf n e)) = scoreV (qG D) (kG D) (ix4 0 (hd c n) r s) := by
  rw [scoreV_apply, ← scale_law _ _ _ (fun e => by have := qG_real D c r (colOf n e); rwa [hd_colOf, ld_colOf] at this)
    (fun e => by have := kG_real D c s (colOf n e); rwa [hd_colOf, ld_colOf] at this) c_scale]
  refine Finset.sum_congr rfl fun e _ => ?_
  rw [qS_apply, kS_apply, rope_eq D c _ _ (D.wq c), rope_eq D c _ _ (D.wk c), hd_colOf, ld_colOf]

theorem score_real (c : Dev nD) (r s n : Fin 1024) : IsR (scoreV (qG D) (kG D) (ix4 0 (hd c n) r s)) := by
  rw [scoreV_apply]
  refine IsR.mul (IsR.sum _ fun e => ?_) c_scale
  have h1 := qG_real D c r (colOf n e)
  have h2 := kG_real D c s (colOf n e)
  rw [hd_colOf, ld_colOf] at h1 h2
  exact h1.mul h2

set_option maxRecDepth 16384 in
/-- One column of the attention's result. -/
theorem ctx_eq (c : Dev nD) (b : Fin 1) (r n : Fin 1024) :
    ctxK (qS (I c)) (kS (I c)) (vS (I c)) r n
      = ctxV (projV X Wv) (probV (expV (scoreV (qG D) (kG D)))) (ix3 b r (gcol c n)) := by
  have e1 : (⟨(gcol c n).val / 128, by have := (gcol c n).isLt; omega⟩ : Fin 64) = hd c n := by
    apply Fin.ext; show (c.val * 1024 + n.val) / 128 = c.val * 8 + n.val / 128; omega
  have e2 : (⟨(gcol c n).val % 128, by omega⟩ : Fin 128) = ld n := by
    apply Fin.ext; show (c.val * 1024 + n.val) % 128 = n.val % 128; omega
  rw [ctxV_apply]
  simp only [e1, e2]
  unfold ctxK
  simp only [score_eq D, vS_apply, proj_eq D c _ _ (D.wv c)]
  choose t ht using fun s => score_real D c r s n
  obtain ⟨M, hM⟩ := fold_max_real (by decide : 0 < 1024) t
  refine (softmax_law (by decide : 0 < 1024) (fun s => scoreV (qG D) (kG D) (ix4 0 (hd c n) r s)) (fun s => ⟨t s, ht s⟩) _
    (Finset.univ.fold max ⊥ fun x : Fin 1024 => scoreV (qG D) (kG D) (ix4 0 (hd c n) r x)) ⟨M, ?_⟩).trans ?_
  · rw [← hM]; congr 1; exact funext ht
  · refine Finset.sum_congr rfl fun s _ => ?_
    rw [probV_apply]
    simp only [expV_apply]

omit D in
/-- The columns of the whole, device by device. -/
theorem sum_cols (f : Fin 8192 → EReal) : ∑ x : Fin 8192, f x = ∑ c : Dev nD, ∑ l : Fin 1024, f (gcol c l) := by
  rw [← Finset.sum_product']
  refine (Fintype.sum_equiv (finProdFinEquiv (m := 8) (n := 1024)) (fun p : Fin 8 × Fin 1024 => f (gcol p.1 p.2)) f fun p => ?_).symm
  congr 1
  apply Fin.ext
  show p.1.val * 1024 + p.2.val = p.2.val + 1024 * p.1.val
  omega

theorem out_eq_ref : outC (start0 I) = refV X Wq Wk Wv Wo := by
  funext i
  obtain ⟨b, r, n, rfl⟩ : ∃ (b : Fin 1) (r n : Fin 1024), i = ix3 b r n := ⟨i 0, i 1, i 2, eq_ix3 i⟩
  rw [outC_apply]
  unfold refV
  rw [outV_apply, sum_cols]
  refine Finset.sum_congr rfl fun c _ => ?_
  have hr : (⟨r.val % 1024, Nat.mod_lt _ (by decide)⟩ : Fin 1024) = r := Fin.ext (Nat.mod_eq_of_lt r.isLt)
  show (slab (I c) _ (ix2 (⟨r.val % 1024, _⟩ : Fin 1024) _) : EReal) = _
  rw [hr, slab_apply]
  refine Finset.sum_congr rfl fun l _ => ?_
  rw [ctx_eq D c b, D.wo]
  congr 3
  apply Fin.ext
  show 512 * (n.val / 512) + n.val % 512 = n.val
  omega

end Cert.Val
-- ==== Proof.Value.Claim.lean ====
/-
From the memories the claim speaks of to the value equation: the precondition read back as "these entries are real", the blocks each
device holds read as columns and rows of the whole arrays.
-/
module

public import proofs.«01_k».proof.Pre_scores_finite_KernelIdeal
public import proofs.«01_k».proof.Pre_scores_finite_ReferenceIdeal
public import proofs.«01_k».proof.Proof.Value.Equal
public import proofs.«01_k».proof.Proof.Value.Tables
public import Idealize.ShloMosaic.Lib.ReduceAll
public import Idealize.ShloMosaic.Lib.Layout

@[expose] public section

noncomputable section

namespace Cert.Val

open Cert.KernelIdeal Cert.KernelIdeal.Gen Cert.KernelIdealProof
open Idealize.ShloMosaic Idealize.ShloMosaic.TcCoe
open scoped BigOperators

/-- The side conditions of the precondition's operations, over one device's blocks. -/
theorem preK : Cert.Pre_scores_finite_KernelIdeal.Facts where
  bitsLt_bf16_f32 := by decide
  bcast_S_S1x1024x1024 := by decide
  reducesTo_S1x1024x1024_S_d0_1_2 := by decide
  h_S_ := by decide
  bcast_S_S1024x1024 := by decide
  reducesTo_S1024x1024_S_d0_1 := by decide

/-- The same, over the whole arrays. -/
theorem preR : Cert.Pre_scores_finite_ReferenceIdeal.Facts where
  bitsLt_bf16_f32 := by decide
  bcast_S_S1x1024x1024 := by decide
  reducesTo_S1x1024x1024_S_d0_1_2 := by decide
  h_S_ := by decide
  bcast_S_S1024x8192 := by decide
  reducesTo_S1024x8192_S_d0_1 := by decide

/-- An entry whose absolute value compares below infinity is real. -/
theorem real_of_lt (a : EReal) (h : FloatOps.cmpf (F := Ideal) (φ := .f32) .olt (max a (-a) : EReal) (Ideal.ofBits .f32 0x7F800000#32 : EReal) = 1#1) : IsR a := by
  rw [c_pos_inf] at h
  refine IsR.of_abs_lt ?_
  by_contra hn
  have : FloatOps.cmpf (F := Ideal) (φ := .f32) .olt (max a (-a) : EReal) (⊤ : EReal) = 0#1 := by
    show BitVec.ofBool (decide (max a (-a) < (⊤ : EReal))) = 0#1
    rw [decide_eq_false hn]; rfl
  rw [this] at h
  exact absurd h (by decide)

/-- What the precondition says: activations, query and key weights hold real numbers. -/
theorem pre_real (x : FVec Ideal ⟨3, ![1, 1024, 1024]⟩ .bf16) (wq wk wv wo : FVec Ideal ⟨2, ![1024, 1024]⟩ .bf16)
    (h : @Cert.Pre_scores_finite_KernelIdeal.fn preK Ideal _ x wq wk wv wo = fun _ => 1#1) :
    (∀ i, IsR (x i)) ∧ (∀ i, IsR (wq i)) ∧ (∀ i, IsR (wk i)) := by
  have e := congrFun h (fun a => a.elim0)
  dsimp only [Cert.Pre_scores_finite_KernelIdeal.fn] at e
  haveI : Subsingleton (Cert.Pre_scores_finite_KernelIdeal.S_).Idx := ⟨fun a b => funext fun k => k.elim0⟩
  obtain ⟨e1, ek⟩ := IntOp.andi_eq_one.1 e
  obtain ⟨ex, eq⟩ := IntOp.andi_eq_one.1 e1
  exact ⟨fun i => real_of_lt _ (Host.reduce_andi_all _ _ _ _ _ ex i), fun i => real_of_lt _ (Host.reduce_andi_all _ _ _ _ _ eq i),
    fun i => real_of_lt _ (Host.reduce_andi_all _ _ _ _ _ ek i)⟩

/-- Device `c`'s block of columns, read at an index. -/
theorem block_col (W : A2) (c : Dev nD) (k n : Fin 1024) :
    (Layout.block ⟨2, ![1024, 1024]⟩ ⟨2, ![1024, 8192]⟩ 1 8 c W) (ix2 k n) = W (ix2 k (gcol c n)) := by
  rw [Layout.block_apply]
  refine congrArg W (funext fun b => Fin.ext ?_)
  match b with
  | ⟨0, _⟩ => rfl
  | ⟨1, _⟩ => rfl

/-- Device `c`'s block of rows, read at an index. -/
theorem block_row (W : A3) (c : Dev nD) (k n : Fin 1024) :
    (Layout.block ⟨2, ![1024, 1024]⟩ ⟨2, ![8192, 1024]⟩ 0 8 c W) (ix2 k n) = W (ix2 (gcol c k) n) := by
  rw [Layout.block_apply]
  refine congrArg W (funext fun b => Fin.ext ?_)
  match b with
  | ⟨0, _⟩ => rfl
  | ⟨1, _⟩ => rfl

variable (m : (ℓ : Loc nD τ sig) → Buf (Elt Ideal) ℓ)

/-- The operands of the kernel, of the whole arrays. -/
theorem shared (X : A1) (Wq Wk Wv : A2) (Wo : A3)
    (hx : ∀ c : Dev nD, m ((c : Thread nD τ).loc main_arg0) = X)
    (hq : ∀ c : Dev nD, m ((c : Thread nD τ).loc main_arg1) = Layout.block ⟨2, ![1024, 1024]⟩ ⟨2, ![1024, 8192]⟩ 1 8 c Wq)
    (hk : ∀ c : Dev nD, m ((c : Thread nD τ).loc main_arg2) = Layout.block ⟨2, ![1024, 1024]⟩ ⟨2, ![1024, 8192]⟩ 1 8 c Wk)
    (hv : ∀ c : Dev nD, m ((c : Thread nD τ).loc main_arg3) = Layout.block ⟨2, ![1024, 1024]⟩ ⟨2, ![1024, 8192]⟩ 1 8 c Wv)
    (ho : ∀ c : Dev nD, m ((c : Thread nD τ).loc main_arg4) = Layout.block ⟨2, ![1024, 1024]⟩ ⟨2, ![8192, 1024]⟩ 0 8 c Wo)
    (hp : ∀ c : Dev nD, @Cert.Pre_scores_finite_KernelIdeal.fn preK Ideal _ (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Shared (Iof m) X Wq Wk Wv Wo where
  x c r k := (congrFun (in_x m c) _).trans ((x_apply m c r k).trans (congrFun (hx c) _))
  wq c k n := (congrFun (in_wq m c) _).trans ((congrFun ((V_main_arg1 m c).trans (hq c)) _).trans (block_col Wq c k n))
  wk c k n := (congrFun (in_wk m c) _).trans ((congrFun ((V_main_arg2 m c).trans (hk c)) _).trans (block_col Wk c k n))
  wv c k n := (congrFun (in_wv m c) _).trans ((congrFun ((V_main_arg3 m c).trans (hv c)) _).trans (block_col Wv c k n))
  wo c k n := (congrFun (in_wo m c) _).trans ((congrFun ((V_main_arg4 m c).trans (ho c)) _).trans (block_row Wo c k n))
  cs c r n := (congrFun (in_cs m c) _).trans (cs_apply m c r n)
  sn c r n := (congrFun (in_sn m c) _).trans (sn_apply m c r n)
  p c t n := (Finset.sum_congr rfl fun l _ => congrArg (t l * ·) (congrFun (in_p m c) (ix2 l n))).trans (pair_sum m c t n)
  xR c r k := by
    have e : (Iof m c).x (ix2 r k) = m ((c : Thread nD τ).loc main_arg0) (ix3 0 r k) := (congrFun (in_x m c) _).trans (x_apply m c r k)
    exact e ▸ (pre_real _ _ _ _ _ (hp c)).1 (ix3 0 r k)
  qR c r k := by
    have e : (Iof m c).wq (ix2 r k) = m ((c : Thread nD τ).loc main_arg1) (ix2 r k) := (congrFun (in_wq m c) _).trans (congrFun (V_main_arg1 m c) _)
    exact e ▸ (pre_real _ _ _ _ _ (hp c)).2.1 (ix2 r k)
  kR c r k := by
    have e : (Iof m c).wk (ix2 r k) = m ((c : Thread nD τ).loc main_arg2) (ix2 r k) := (congrFun (in_wk m c) _).trans (congrFun (V_main_arg2 m c) _)
    exact e ▸ (pre_real _ _ _ _ _ (hp c)).2.2 (ix2 r k)

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Out
public import proofs.«01_k».proof.Proof.KernelIdeal.Out
public import proofs.«01_k».proof.Proof.Value.Claim

@[expose] public section

noncomputable section

namespace Cert.Proof

open Idealize.ShloMosaic Idealize.SL.Sem

/-- The kernel at the bit level. -/
theorem kernel_frame : Cert.quiescent_Kernel (hKernel := Cert.Kernel.Gen.facts) := fun m g _ =>
  (θ_run _ _ _).mono (fun _ h => ⟨fun c => (h.1 c).2, h.2⟩) (Cert.KernelProof.run (F := Bits) m g)

/-- The idealized kernel. -/
theorem ideal_frame : Cert.quiescent_KernelIdeal (hKernelIdeal := Cert.KernelIdeal.Gen.facts) := fun m g _ =>
  (θ_run _ _ _).mono (fun _ h => ⟨fun c => (h.1 c).2, h.2⟩) (Cert.KernelIdealProof.run (F := Ideal) m g)

/-- The reference: it has no semaphore. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Under the precondition of the value claim the idealized kernel runs, as it does without it. -/
theorem ideal_frame_pre : Cert.quiescent_KernelIdeal_pre_scores_finite_KernelIdeal (hKernelIdeal := Cert.KernelIdeal.Gen.facts)
    (hPre_scores_finite_KernelIdeal := Cert.Val.preK) := fun m g _ => ideal_frame m g trivial

/-- So does the reference. -/
theorem reference_frame_pre : Cert.quiescent_ReferenceIdeal_pre_scores_finite_ReferenceIdeal (hReferenceIdeal := Cert.ReferenceIdeal.Gen.facts)
    (hPre_scores_finite_ReferenceIdeal := Cert.Val.preR) := fun m g _ => reference_frame m g trivial

/-- The value claim: every device ends with the reference's result. -/
theorem value : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := Cert.Val.preK) := fun m g m' g' hp hm =>
  ⟨Cert.ReferenceIdeal.Value.res_main_v85 m' 0,
    (θ_run _ _ _).mono (fun _ h c => ⟨(h.1 c).1.trans ((Cert.Val.out_eq_ref (Cert.Val.shared m _ _ _ _ _ (fun c => (hm c).1) (fun c => (hm c).2.1)
        (fun c => (hm c).2.2.1) (fun c => (hm c).2.2.2.1) (fun c => (hm c).2.2.2.2) hp)).trans (Cert.Val.res_eq m' 0).symm), (h.1 c).2⟩)
      (Cert.KernelIdealProof.run (F := Ideal) m g),
    (θ_run _ _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.Val.preK, Cert.Val.preR,
    kernel_frame, ideal_frame, ideal_frame_pre, reference_frame, reference_frame_pre, trivial, value⟩

end Cert.Proof

end
